-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_sum_below_floor [hPre_no_sum_below_floor : Cert.Pre_no_sum_below_floor.Facts] (m : (ℓ : Loc Cert.KernelIdeal.nD Cert.KernelIdeal.τ Cert.KernelIdeal.sig) → Buf (Elt Ideal) ℓ) : Prop :=
  ∀ c : Dev Cert.KernelIdeal.nD,
    (Cert.Pre_no_sum_below_floor.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_sum_below_floor [hPre_no_sum_below_floor : Cert.Pre_no_sum_below_floor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_sum_below_floor.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_sum_below_floor [hKernelIdeal : Cert.KernelIdeal.Facts] [hPre_no_sum_below_floor : Cert.Pre_no_sum_below_floor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_sum_below_floor m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_sum_below_floor [hReferenceIdeal : Cert.ReferenceIdeal.Facts] [hPre_no_sum_below_floor : Cert.Pre_no_sum_below_floor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_sum_below_floor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_temperature" .f32 0x41C80000#32 ((134217728 / 5368709 : ℝ) : EReal)
  ∧ IdealRules.named_const.Statement Cert.KernelIdeal.κ "floor" .bf16 0x0DA2#16 ((1 / 1000000000000000000000000000000 : ℝ) : EReal)
  ∧ IdealRules.named_const.Statement Cert.KernelIdeal.κ "floor" .f32 0x0DA24260#32 ((1 / 1000000000000000000000000000000 : ℝ) : EReal)

def algebraic_KernelIdeal_ReferenceIdeal_pre_no_sum_below_floor [hKernelIdeal : Cert.KernelIdeal.Facts] [hReferenceIdeal : Cert.ReferenceIdeal.Facts] [hPre_no_sum_below_floor : Cert.Pre_no_sum_below_floor.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_sum_below_floor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_sum_below_floor : Cert.Pre_no_sum_below_floor.Facts),
    quiescent_Kernel (hKernel := hKernel)
    ∧ quiescent_KernelIdeal (hKernelIdeal := hKernelIdeal)
    ∧ quiescent_KernelIdeal_pre_no_sum_below_floor (hKernelIdeal := hKernelIdeal) (hPre_no_sum_below_floor := hPre_no_sum_below_floor)
    ∧ quiescent_ReferenceIdeal (hReferenceIdeal := hReferenceIdeal)
    ∧ quiescent_ReferenceIdeal_pre_no_sum_below_floor (hReferenceIdeal := hReferenceIdeal) (hPre_no_sum_below_floor := hPre_no_sum_below_floor)
    ∧ preserves_Kernel_KernelIdeal
    ∧ algebraic_KernelIdeal_ReferenceIdeal_pre_no_sum_below_floor (hKernelIdeal := hKernelIdeal) (hReferenceIdeal := hReferenceIdeal) (hPre_no_sum_below_floor := hPre_no_sum_below_floor)
-- ==== Pre_no_sum_below_floor.lean ====
abbrev S4096x128x128 : Shape := ⟨3, ![4096, 128, 128]⟩
abbrev S_ : Shape := ⟨0, ![]⟩
abbrev S4096x128 : Shape := ⟨2, ![4096, 128]⟩
abbrev S4096x128x1 : Shape := ⟨3, ![4096, 128, 1]⟩
abbrev S4096x1x128 : Shape := ⟨3, ![4096, 1, 128]⟩

class Facts : Prop where
  bcast_S_S4096x128x128 : S_.BroadcastsInDim S4096x128x128 (![] : Fin 0 → Fin S4096x128x128.rank)
  reducesTo_S4096x128x128_S4096x128_d2 : S4096x128x128.ReducesTo [2] S4096x128
  h_S_ : 0 < S_.numel
  bcast_S4096x128_S4096x128x1_0_1 : S4096x128.BroadcastsInDim S4096x128x1 (![0, 1] : Fin 2 → Fin S4096x128x1.rank)
  bcast_S4096x128x1_S4096x128x128_0_1_2 : S4096x128x1.BroadcastsInDim S4096x128x128 (![0, 1, 2] : Fin 3 → Fin S4096x128x128.rank)
  bcast_S_S4096x1x128 : S_.BroadcastsInDim S4096x1x128 (![] : Fin 0 → Fin S4096x1x128.rank)
  bcast_S4096x1x128_S4096x128x128_0_1_2 : S4096x1x128.BroadcastsInDim S4096x128x128 (![0, 1, 2] : Fin 3 → Fin S4096x128x128.rank)
  reducesTo_S4096x128x128_S4096x128_d1 : S4096x128x128.ReducesTo [1] S4096x128
  bcast_S4096x128_S4096x1x128_0_2 : S4096x128.BroadcastsInDim S4096x1x128 (![0, 2] : Fin 2 → Fin S4096x1x128.rank)
  bcast_S_S4096x128x1 : S_.BroadcastsInDim S4096x128x1 (![] : Fin 0 → Fin S4096x128x1.rank)

variable [Facts]

def fn_scaling_trip {F : FTy → Type} [FloatOps F] (arg0 : FVec F S4096x128x128 .f32) (arg1 : FVec F S4096x1x128 .f32) (arg2 : IVec S4096x128x128 1) : FVec F S4096x1x128 .f32 × IVec S4096x128x128 1 :=
  let v0 : FVec F S4096x128x128 .f32 := broadcastInDim S4096x128x128 ![0, 1, 2] bcast_S4096x1x128_S4096x128x128_0_1_2 arg1
  let v1 : FVec F S4096x128x128 .f32 := mulf arg0 v0
  let cst : FVec F S_ .f32 := constant S_ .f32 0x00000000#32
  let v2 : FVec F S4096x128 .f32 := (fun x v => Host.reduceAdd x v reducesTo_S4096x128x128_S4096x128_d2 h_S_) v1 cst
  let v3 : FVec F S4096x128x1 .f32 := broadcastInDim S4096x128x1 ![0, 1] bcast_S4096x128_S4096x128x1_0_1 v2
  let v4 : FVec F S4096x128x128 .f32 := broadcastInDim S4096x128x128 ![0, 1, 2] bcast_S4096x128x1_S4096x128x128_0_1_2 v3
  let v5 : FVec F S4096x128x128 .f32 := Host.divf arg0 v4
  let cst_0 : FVec F S_ .f32 := constant S_ .f32 0x00000000#32
  let v6 : FVec F S4096x128 .f32 := (fun x v => Host.reduceAdd x v reducesTo_S4096x128x128_S4096x128_d1 h_S_) v5 cst_0
  let v7 : FVec F S4096x1x128 .f32 := broadcastInDim S4096x1x128 ![0, 2] bcast_S4096x128_S4096x1x128_0_2 v6
  let cst_1 : FVec F S_ .f32 := constant S_ .f32 0x3F800000#32
  let v8 : FVec F S4096x1x128 .f32 := broadcastInDim S4096x1x128 ![] bcast_S_S4096x1x128 cst_1
  let v9 : FVec F S4096x1x128 .f32 := Host.divf v8 v7
  let cst_2 : FVec F S_ .f32 := constant S_ .f32 0x0DA24260#32
  let v10 : FVec F S4096x128x1 .f32 := broadcastInDim S4096x128x1 ![] bcast_S_S4096x128x1 cst_2
  let v11 : IVec S4096x128x1 1 := cmpf .oge v3 v10
  let v12 : IVec S4096x128x128 1 := broadcastInDim S4096x128x128 ![0, 1, 2] bcast_S4096x128x1_S4096x128x128_0_1_2 v11
  let v13 : IVec S4096x128x128 1 := andi arg2 v12
  let cst_3 : FVec F S_ .f32 := constant S_ .f32 0x0DA24260#32
  let v14 : FVec F S4096x1x128 .f32 := broadcastInDim S4096x1x128 ![] bcast_S_S4096x1x128 cst_3
  let v15 : IVec S4096x1x128 1 := cmpf .oge v7 v14
  let v16 : IVec S4096x128x128 1 := broadcastInDim S4096x128x128 ![0, 1, 2] bcast_S4096x1x128_S4096x128x128_0_1_2 v15
  let v17 : IVec S4096x128x128 1 := andi v13 v16
  (v9, v17)

def fn_part2 {F : FTy → Type} [FloatOps F] (main_v6 : FVec F S4096x128x128 .f32) (main_v25_0 : FVec F S4096x1x128 .f32) (main_v25_1 : IVec S4096x128x128 1) (main_v26_0 : FVec F S4096x1x128 .f32) : IVec S4096x128x128 1 :=
  let main_v26_1 : IVec S4096x128x128 1 := (fn_scaling_trip (F := F) main_v6 main_v25_0 main_v25_1).2
  let main_v27_0 : FVec F S4096x1x128 .f32 := (fn_scaling_trip (F := F) main_v6 main_v26_0 main_v26_1).1
  let main_v27_1 : IVec S4096x128x128 1 := (fn_scaling_trip (F := F) main_v6 main_v26_0 main_v26_1).2
  let main_v28_0 : FVec F S4096x1x128 .f32 := (fn_scaling_trip (F := F) main_v6 main_v27_0 main_v27_1).1
  let main_v28_1 : IVec S4096x128x128 1 := (fn_scaling_trip (F := F) main_v6 main_v27_0 main_v27_1).2
  let main_v29_0 : FVec F S4096x1x128 .f32 := (fn_scaling_trip (F := F) main_v6 main_v28_0 main_v28_1).1
  let main_v29_1 : IVec S4096x128x128 1 := (fn_scaling_trip (F := F) main_v6 main_v28_0 main_v28_1).2
  main_v29_1

def fn_part1 {F : FTy → Type} [FloatOps F] (main_v6 : FVec F S4096x128x128 .f32) (main_v13_0 : FVec F S4096x1x128 .f32) (main_v13_1 : IVec S4096x128x128 1) (main_v14_0 : FVec F S4096x1x128 .f32) : IVec S4096x128x128 1 :=
  let main_v14_1 : IVec S4096x128x128 1 := (fn_scaling_trip (F := F) main_v6 main_v13_0 main_v13_1).2
  let main_v15_0 : FVec F S4096x1x128 .f32 := (fn_scaling_trip (F := F) main_v6 main_v14_0 main_v14_1).1
  let main_v15_1 : IVec S4096x128x128 1 := (fn_scaling_trip (F := F) main_v6 main_v14_0 main_v14_1).2
  let main_v16_0 : FVec F S4096x1x128 .f32 := (fn_scaling_trip (F := F) main_v6 main_v15_0 main_v15_1).1
  let main_v16_1 : IVec S4096x128x128 1 := (fn_scaling_trip (F := F) main_v6 main_v15_0 main_v15_1).2
  let main_v17_0 : FVec F S4096x1x128 .f32 := (fn_scaling_trip (F := F) main_v6 main_v16_0 main_v16_1).1
  let main_v17_1 : IVec S4096x128x128 1 := (fn_scaling_trip (F := F) main_v6 main_v16_0 main_v16_1).2
  let main_v18_0 : FVec F S4096x1x128 .f32 := (fn_scaling_trip (F := F) main_v6 main_v17_0 main_v17_1).1
  let main_v18_1 : IVec S4096x128x128 1 := (fn_scaling_trip (F := F) main_v6 main_v17_0 main_v17_1).2
  let main_v19_0 : FVec F S4096x1x128 .f32 := (fn_scaling_trip (F := F) main_v6 main_v18_0 main_v18_1).1
  let main_v19_1 : IVec S4096x128x128 1 := (fn_scaling_trip (F := F) main_v6 main_v18_0 main_v18_1).2
  let main_v20_0 : FVec F S4096x1x128 .f32 := (fn_scaling_trip (F := F) main_v6 main_v19_0 main_v19_1).1
  let main_v20_1 : IVec S4096x128x128 1 := (fn_scaling_trip (F := F) main_v6 main_v19_0 main_v19_1).2
  let main_v21_0 : FVec F S4096x1x128 .f32 := (fn_scaling_trip (F := F) main_v6 main_v20_0 main_v20_1).1
  let main_v21_1 : IVec S4096x128x128 1 := (fn_scaling_trip (F := F) main_v6 main_v20_0 main_v20_1).2
  let main_v22_0 : FVec F S4096x1x128 .f32 := (fn_scaling_trip (F := F) main_v6 main_v21_0 main_v21_1).1
  let main_v22_1 : IVec S4096x128x128 1 := (fn_scaling_trip (F := F) main_v6 main_v21_0 main_v21_1).2
  let main_v23_0 : FVec F S4096x1x128 .f32 := (fn_scaling_trip (F := F) main_v6 main_v22_0 main_v22_1).1
  let main_v23_1 : IVec S4096x128x128 1 := (fn_scaling_trip (F := F) main_v6 main_v22_0 main_v22_1).2
  let main_v24_0 : FVec F S4096x1x128 .f32 := (fn_scaling_trip (F := F) main_v6 main_v23_0 main_v23_1).1
  let main_v24_1 : IVec S4096x128x128 1 := (fn_scaling_trip (F := F) main_v6 main_v23_0 main_v23_1).2
  let main_v25_0 : FVec F S4096x1x128 .f32 := (fn_scaling_trip (F := F) main_v6 main_v24_0 main_v24_1).1
  let main_v25_1 : IVec S4096x128x128 1 := (fn_scaling_trip (F := F) main_v6 main_v24_0 main_v24_1).2
  let main_v26_0 : FVec F S4096x1x128 .f32 := (fn_scaling_trip (F := F) main_v6 main_v25_0 main_v25_1).1
  fn_part2 (F := F) main_v6 main_v25_0 main_v25_1 main_v26_0

def fn {F : FTy → Type} [FloatOps F] (main_arg0 : FVec F S4096x128x128 .f32) : IVec S4096x128x128 1 :=
  let main_cst : FVec F S_ .f32 := constant S_ .f32 0x3D23D70A#32
  let main_v0 : FVec F S4096x128x128 .f32 := broadcastInDim S4096x128x128 ![] bcast_S_S4096x128x128 main_cst
  let main_v1 : FVec F S4096x128x128 .f32 := Host.divf main_arg0 main_v0
  let main_cst_0 : FVec F S_ .f32 := constant S_ .f32 0xFF800000#32
  let main_v2 : FVec F S4096x128 .f32 := (fun x v => Host.reduce FloatOps.maximumf x v reducesTo_S4096x128x128_S4096x128_d2 h_S_) main_v1 main_cst_0
  let main_v3 : FVec F S4096x128x1 .f32 := broadcastInDim S4096x128x1 ![0, 1] bcast_S4096x128_S4096x128x1_0_1 main_v2
  let main_v4 : FVec F S4096x128x128 .f32 := broadcastInDim S4096x128x128 ![0, 1, 2] bcast_S4096x128x1_S4096x128x128_0_1_2 main_v3
  let main_v5 : FVec F S4096x128x128 .f32 := subf main_v1 main_v4
  let main_v6 : FVec F S4096x128x128 .f32 := Host.exp main_v5
  let main_cst_1 : FVec F S_ .f32 := constant S_ .f32 0x3F800000#32
  let main_v7 : FVec F S4096x1x128 .f32 := broadcastInDim S4096x1x128 ![] bcast_S_S4096x1x128 main_cst_1
  let main_c : IVec S_ 1 := constantI S_ 1 1#1
  let main_v8 : IVec S4096x128x128 1 := broadcastInDim S4096x128x128 ![] bcast_S_S4096x128x128 main_c
  let main_v9_0 : FVec F S4096x1x128 .f32 := (fn_scaling_trip (F := F) main_v6 main_v7 main_v8).1
  let main_v9_1 : IVec S4096x128x128 1 := (fn_scaling_trip (F := F) main_v6 main_v7 main_v8).2
  let main_v10_0 : FVec F S4096x1x128 .f32 := (fn_scaling_trip (F := F) main_v6 main_v9_0 main_v9_1).1
  let main_v10_1 : IVec S4096x128x128 1 := (fn_scaling_trip (F := F) main_v6 main_v9_0 main_v9_1).2
  let main_v11_0 : FVec F S4096x1x128 .f32 := (fn_scaling_trip (F := F) main_v6 main_v10_0 main_v10_1).1
  let main_v11_1 : IVec S4096x128x128 1 := (fn_scaling_trip (F := F) main_v6 main_v10_0 main_v10_1).2
  let main_v12_0 : FVec F S4096x1x128 .f32 := (fn_scaling_trip (F := F) main_v6 main_v11_0 main_v11_1).1
  let main_v12_1 : IVec S4096x128x128 1 := (fn_scaling_trip (F := F) main_v6 main_v11_0 main_v11_1).2
  let main_v13_0 : FVec F S4096x1x128 .f32 := (fn_scaling_trip (F := F) main_v6 main_v12_0 main_v12_1).1
  let main_v13_1 : IVec S4096x128x128 1 := (fn_scaling_trip (F := F) main_v6 main_v12_0 main_v12_1).2
  let main_v14_0 : FVec F S4096x1x128 .f32 := (fn_scaling_trip (F := F) main_v6 main_v13_0 main_v13_1).1
  fn_part1 (F := F) main_v6 main_v13_0 main_v13_1 main_v14_0
-- ==== Kernel.lean ====
abbrev S4096x128x128 : Shape := ⟨3, ![4096, 128, 128]⟩
abbrev S64x128x128 : Shape := ⟨3, ![64, 128, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S64x128 : Shape := ⟨2, ![64, 128]⟩
abbrev S1x128 : Shape := ⟨2, ![1, 128]⟩

abbrev nBuf : Space → Nat
  | .hbm => 2
  | .vmem => 5
  | .smem => 0
  | _ => 0

abbrev bufTy : (tb : Table) → Fin (tcTables nBuf tb) → BufTy
  | .hbm, ⟨0, _⟩ => ⟨S4096x128x128, .f32⟩
  | .hbm, ⟨1, _⟩ => ⟨S4096x128x128, .f32⟩
  | .local _ .vmem, ⟨0, _⟩ => ⟨S64x128x128, .f32⟩
  | .local _ .vmem, ⟨1, _⟩ => ⟨S64x128x128, .f32⟩
  | .local _ .vmem, ⟨2, _⟩ => ⟨S64x128x128, .f32⟩
  | .local _ .vmem, ⟨3, _⟩ => ⟨S64x128x128, .f32⟩
  | .local _ .vmem, ⟨4, _⟩ => ⟨S64x128x128, .bf16⟩
  | _, _ => ⟨S4096x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c19_i32 : BitVec 32 := 19#32
  let v1025 : BitVec 32 := Scalar.addi c0_i32 c19_i32
  let c1_i32 : BitVec 32 := 1#32
  ⟨c0_i32, v1025, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "floor" => some ((1 / 1000000000000000000000000000000 : ℝ) : EReal)
  | "inv_temperature" => some ((134217728 / 5368709 : ℝ) : EReal)
  | _ => none
-- ==== ReferenceIdeal.lean ====
abbrev S4096x128x128 : Shape := ⟨3, ![4096, 128, 128]⟩
abbrev S_ : Shape := ⟨0, ![]⟩
abbrev S4096x128 : Shape := ⟨2, ![4096, 128]⟩
abbrev S4096x128x1 : Shape := ⟨3, ![4096, 128, 1]⟩
abbrev S4096x1x128 : Shape := ⟨3, ![4096, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x128x128, .f32⟩
  | .hbm, ⟨1, _⟩ => ⟨S_, .f32⟩
  | .hbm, ⟨2, _⟩ => ⟨S4096x128x128, .f32⟩
  | .hbm, ⟨3, _⟩ => ⟨S4096x128x128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096x128x128, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x128x1, .f32⟩
  | .hbm, ⟨16, _⟩ => ⟨S4096x128x1, .f32⟩
  | .hbm, ⟨17, _⟩ => ⟨S_, .f32⟩
  | .hbm, ⟨18, _⟩ => ⟨S4096x128x1, .f32⟩
  | .hbm, ⟨19, _⟩ => ⟨S4096x128x1, .i1⟩
  | .hbm, ⟨20, _⟩ => ⟨S_, .f32⟩
  | .hbm, ⟨21, _⟩ => ⟨S_, .f32⟩
  | .hbm, ⟨22, _⟩ => ⟨S4096x128x1, .f32⟩
  | .hbm, ⟨23, _⟩ => ⟨S4096x128x1, .f32⟩
  | .hbm, ⟨24, _⟩ => ⟨S4096x128x128, .f32⟩
  | .hbm, ⟨25, _⟩ => ⟨S4096x128x128, .f32⟩
  | .hbm, ⟨26, _⟩ => ⟨S4096x128x128, .f32⟩
  | .hbm, ⟨27, _⟩ => ⟨S_, .f32⟩
  | .hbm, ⟨28, _⟩ => ⟨S4096x128, .f32⟩
  | .hbm, ⟨29, _⟩ => ⟨S4096x128x1, .f32⟩
  | .hbm, ⟨30, _⟩ => ⟨S4096x128x1, .f32⟩
  | .hbm, ⟨31, _⟩ => ⟨S4096x128x1, .f32⟩
  | .hbm, ⟨32, _⟩ => ⟨S4096x128x128, .f32⟩
  | .hbm, ⟨33, _⟩ => ⟨S4096x128x128, .f32⟩
  | .hbm, ⟨34, _⟩ => ⟨S_, .f32⟩
  | .hbm, ⟨35, _⟩ => ⟨S4096x128, .f32⟩
  | .hbm, ⟨36, _⟩ => ⟨S4096x1x128, .f32⟩
  | .hbm, ⟨37, _⟩ => ⟨S4096x1x128, .f32⟩
  | .hbm, ⟨38, _⟩ => ⟨S_, .f32⟩
  | .hbm, ⟨39, _⟩ => ⟨S4096x1x128, .f32⟩
  | .hbm, ⟨40, _⟩ => ⟨S4096x1x128, .i1⟩
  | .hbm, ⟨41, _⟩ => ⟨S_, .f32⟩
  | .hbm, ⟨42, _⟩ => ⟨S_, .f32⟩
  | .hbm, ⟨43, _⟩ => ⟨S4096x1x128, .f32⟩
  | .hbm, ⟨44, _⟩ => ⟨S4096x1x128, .f32⟩
  | .hbm, ⟨45, _⟩ => ⟨S4096x128x128, .f32⟩
  | .hbm, ⟨46, _⟩ => ⟨S4096x128x128, .f32⟩
  | .hbm, ⟨47, _⟩ => ⟨S4096x128x128, .f32⟩
  | .hbm, ⟨48, _⟩ => ⟨S_, .f32⟩
  | .hbm, ⟨49, _⟩ => ⟨S4096x128, .f32⟩
  | .hbm, ⟨50, _⟩ => ⟨S4096x1x128, .f32⟩
  | .hbm, ⟨51, _⟩ => ⟨S4096x1x128, .f32⟩
  | .hbm, ⟨52, _⟩ => ⟨S4096x1x128, .f32⟩
  | .hbm, ⟨53, _⟩ => ⟨S4096x128x128, .f32⟩
  | .hbm, ⟨54, _⟩ => ⟨S4096x128x128, .f32⟩
  | .hbm, ⟨55, _⟩ => ⟨S_, .i32⟩
  | .hbm, ⟨56, _⟩ => ⟨S_, .i32⟩
  | .hbm, ⟨57, _⟩ => ⟨S4096x128x128, .f32⟩
  | _, _ => ⟨S4096x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_while0c_c_3 : Ref sig .tc := ⟨.hbm, 9, rfl⟩
abbrev main_while0c_v4 : Ref sig .tc := ⟨.hbm, 10, rfl⟩
abbrev main_while0b_c_3 : Ref sig .tc := ⟨.hbm, 11, rfl⟩
abbrev main_while0b_v4 : Ref sig .tc := ⟨.hbm, 12, rfl⟩
abbrev main_while0b_cst_4 : Ref sig .tc := ⟨.hbm, 13, rfl⟩
abbrev main_while0b_v5 : Ref sig .tc := ⟨.hbm, 14, rfl⟩
abbrev main_while0b_v6 : Ref sig .tc := ⟨.hbm, 15, rfl⟩
abbrev main_while0b_v7 : Ref sig .tc := ⟨.hbm, 16, rfl⟩
abbrev main_while0b_cst_5 : Ref sig .tc := ⟨.hbm, 17, rfl⟩
abbrev main_while0b_v8 : Ref sig .tc := ⟨.hbm, 18, rfl⟩
abbrev main_while0b_v9 : Ref sig .tc := ⟨.hbm, 19, rfl⟩
abbrev main_while0b_cst_6 : Ref sig .tc := ⟨.hbm, 20, rfl⟩
abbrev main_while0b_call0_v0 : Ref sig .tc := ⟨.hbm, 21, rfl⟩
abbrev main_while0b_call0_v1 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_v13 : Ref sig .tc := ⟨.hbm, 26, rfl⟩
abbrev main_while0b_cst_7 : Ref sig .tc := ⟨.hbm, 27, rfl⟩
abbrev main_while0b_v14 : Ref sig .tc := ⟨.hbm, 28, rfl⟩
abbrev main_while0b_v15 : Ref sig .tc := ⟨.hbm, 29, rfl⟩
abbrev main_while0b_v16 : Ref sig .tc := ⟨.hbm, 30, rfl⟩
abbrev main_while0b_v17 : Ref sig .tc := ⟨.hbm, 31, rfl⟩
abbrev main_while0b_v18 : Ref sig .tc := ⟨.hbm, 32, rfl⟩
abbrev main_while0b_v19 : Ref sig .tc := ⟨.hbm, 33, rfl⟩
abbrev main_while0b_cst_8 : Ref sig .tc := ⟨.hbm, 34, rfl⟩
abbrev main_while0b_v20 : Ref sig .tc := ⟨.hbm, 35, rfl⟩
abbrev main_while0b_v21 : Ref sig .tc := ⟨.hbm, 36, rfl⟩
abbrev main_while0b_v22 : Ref sig .tc := ⟨.hbm, 37, rfl⟩
abbrev main_while0b_cst_9 : Ref sig .tc := ⟨.hbm, 38, rfl⟩
abbrev main_while0b_v23 : Ref sig .tc := ⟨.hbm, 39, rfl⟩
abbrev main_while0b_v24 : Ref sig .tc := ⟨.hbm, 40, rfl⟩
abbrev main_while0b_cst_10 : Ref sig .tc := ⟨.hbm, 41, rfl⟩
abbrev main_while0b_call1_v0 : Ref sig .tc := ⟨.hbm, 42, rfl⟩
abbrev main_while0b_call1_v1 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_v28 : Ref sig .tc := ⟨.hbm, 47, rfl⟩
abbrev main_while0b_cst_11 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_c_12 : Ref sig .tc := ⟨.hbm, 55, rfl⟩
abbrev main_while0b_v35 : Ref sig .tc := ⟨.hbm, 56, rfl⟩
abbrev main_v3 : Ref sig .tc := ⟨.hbm, 57, rfl⟩

abbrev nD : Nat := 1
abbrev τ : Topo := Topo.v7x

variable {F : FTy → Type} [FloatOps F]

abbrev main_while0_count : Scf.Loop 32 := ⟨0#32, 21#32, 1#32⟩
-- ==== Proof.Block.lean ====
/- One grid step of the kernel, for any floats: every one of its 64 matrices goes through the same operations, written
   here once with the matrix's number as a parameter. The run's own values, one per matrix, are these by unfolding. -/
module

public import proofs.«01_k».proof.Proof.Gen.KernelIdeal.Value
public import Idealize.ShloMosaic.Lib.Pipeline.ValueKit
public import Idealize.ShloMosaic.Lib.WholeRead

@[expose] public section

set_option maxRecDepth 16384

noncomputable section

namespace Cert.KernelIdeal.Sinkhorn

open Idealize.ShloMosaic Idealize.SL.Sem Cert.KernelIdeal Cert.KernelIdeal.Gen

variable {F : FTy → Type} [FloatOps F] [Named F]

/-- Matrix `n`'s box of a block of 64 matrices. -/
theorem box_inb (n : Fin 64) (a : Fin 3) : (![n.val, 0, 0] : Fin 3 → ℕ) a + S1x128x128.size a ≤ S64x128x128.size a := by
  have := n.isLt
  fin_cases a
  · show n.val + 1 ≤ 64; omega
  · exact Nat.le_refl 128
  · exact Nat.le_refl 128

abbrev box (n : Fin 64) : Rect S64x128x128 := Rect.unit ![n.val, 0, 0] S1x128x128.size (box_inb n)

theorem row_slices (n : Fin 64) : S64x128.Slices ![n.val, 0] S1x128 := by
  revert n; decide

/-- `exp (x / temperature - rowmax)` of one matrix. -/
def kExp (x : Vec F S1x128x128 .f32) : FVec F S128x128 .f32 :=
  let a : FVec F S128x128 .f32 := mulf (shapeCast S128x128 x shapeCasts_S1x128x128_S128x128)
    (broadcast S128x128 (Named.named κ "inv_temperature" 0x41C80000#32))
  exp (subf a (broadcastTo S128x128
    (shapeCast S128x1 (multiReduction .maximumf [1] S128 a 0xFF800000#32 reduces_S128x128_S128 (.inl rfl) rfl) shapeCasts_S128_S128x1)
    broadcasts_S128x1_S128x128))

/-- What the f32 output block holds of it, and what the bf16 scratch holds of it. -/
def k32 (x : Vec F S1x128x128 .f32) : FVec F S1x128x128 .f32 := shapeCast S1x128x128 (kExp x) shapeCasts_S128x128_S1x128x128
def k16 (x : Vec F S1x128x128 .f32) : FVec F S1x128x128 .bf16 :=
  shapeCast S1x128x128 (truncf .bf16 (kExp x) bitsLt_bf16_f32) shapeCasts_S128x128_S1x128x128

/-- Row `n` of the column factors, spread over a matrix's rows. -/
def spread {e : FTy} (n : Fin 64) (c : FVec F S64x128 e) : FVec F S128x128 e :=
  broadcastTo S128x128 (shapeCast S1x128 (shapeCast S128 (extractStridedSlice S1x128 ![n.val, 0] c (row_slices n))
    shapeCasts_S1x128_S128) shapeCasts_S128_S1x128) broadcasts_S1x128_S128x128

/-- One bf16 scaling of matrix `n`: its column factors from those before. -/
def step16 (n : Fin 64) (k : Vec F S1x128x128 .bf16) (c : FVec F S64x128 .bf16) : FVec F S128 .bf16 :=
  let a : FVec F S128x128 .bf16 := shapeCast S128x128 k shapeCasts_S1x128x128_S128x128
  let u : FVec F S128 .bf16 := multiReduction .add [1] S128 (mulf a (spread n c)) 0x0000#16 reduces_S128x128_S128 (.inr rfl) rfl
  let r : FVec F S128x1 .bf16 := divf (broadcast S128x1 (Scalar.ofBits .bf16 0x3F80#16))
    (maximumf (shapeCast S128x1 u shapeCasts_S128_S128x1) (broadcast S128x1 (Named.named κ "floor" 0x0DA2#16)))
  let v : FVec F S128 .bf16 := multiReduction .add [0] S128 (mulf a (broadcastTo S128x128 r broadcasts_S128x1_S128x128)) 0x0000#16
    reduces_S128x128_S128_2 (.inr rfl) rfl
  divf (broadcast S128 (Scalar.ofBits .bf16 0x3F80#16)) (maximumf v (broadcast S128 (Named.named κ "floor" 0x0DA2#16)))

/-- The matrix scaled by its row factors, in f32. -/
def rows32 (n : Fin 64) (k : Vec F S1x128x128 .f32) (c : FVec F S64x128 .f32) : FVec F S128x128 .f32 :=
  let a : FVec F S128x128 .f32 := shapeCast S128x128 k shapeCasts_S1x128x128_S128x128
  let u : FVec F S128 .f32 := multiReduction .add [1] S128 (mulf a (spread n c)) 0x00000000#32 reduces_S128x128_S128 (.inl rfl) rfl
  let r : FVec F S128x1 .f32 := divf (broadcast S128x1 (Scalar.ofBits .f32 0x3F800000#32))
    (maximumf (shapeCast S128x1 u shapeCasts_S128_S128x1) (broadcast S128x1 (Named.named κ "floor" 0x0DA24260#32)))
  mulf a (broadcastTo S128x128 r broadcasts_S128x1_S128x128)

/-- One f32 scaling of matrix `n`. -/
def step32 (n : Fin 64) (k : Vec F S1x128x128 .f32) (c : FVec F S64x128 .f32) : FVec F S128 .f32 :=
  let v : FVec F S128 .f32 := multiReduction .add [0] S128 (rows32 n k c) 0x00000000#32 reduces_S128x128_S128_2 (.inl rfl) rfl
  divf (broadcast S128 (Scalar.ofBits .f32 0x3F800000#32)) (maximumf v (broadcast S128 (Named.named κ "floor" 0x0DA24260#32)))

/-- The last scaling of matrix `n`, which leaves the scaled matrix. -/
def last32 (n : Fin 64) (k : Vec F S1x128x128 .f32) (c : FVec F S64x128 .f32) : FVec F S1x128x128 .f32 :=
  let s : FVec F S128x128 .f32 := rows32 n k c
  let v : FVec F S128 .f32 := multiReduction .add [0] S128 s 0x00000000#32 reduces_S128x128_S128_2 (.inl rfl) rfl
  let f : FVec F S1x128 .f32 := divf (broadcast S1x128 (Scalar.ofBits .f32 0x3F800000#32))
    (maximumf (shapeCast S1x128 v shapeCasts_S128_S1x128) (broadcast S1x128 (Named.named κ "floor" 0x0DA24260#32)))
  shapeCast S1x128x128 (mulf s (broadcastTo S128x128 f broadcasts_S1x128_S128x128)) shapeCasts_S128x128_S1x128x128

/-- 64 rows of column factors, one under the other. -/
theorem rows_concatenate {e : FTy} (f : Fin 64 → FVec F S128 e) :
    Shape.Concatenates ((List.ofFn fun n => (⟨S1x128, shapeCast S1x128 (f n) shapeCasts_S128_S1x128⟩ : (s : Shape) × (s.Idx → F e))).map (·.1)) S64x128 0 := by
  rw [List.map_ofFn]; simp only [Function.comp_def]; decide

def stack {e : FTy} (f : Fin 64 → FVec F S128 e) : FVec F S64x128 e :=
  concatenate S64x128 0 (List.ofFn fun n => ⟨S1x128, shapeCast S1x128 (f n) shapeCasts_S128_S1x128⟩) (rows_concatenate f)

/-- A trip of the bf16 loop scales all 64 matrices. -/
theorem trip_eq (𝒱 : Variants) (c : Dev nD) (bd : Option 𝒱.V) (i : grid0.Coords) (arg1 : Memref sig .tc .vmem S64x128x128 .f32) (harg1 : arg1.IsWhole)
    (arg2 : Memref sig .tc .vmem S64x128x128 .f32) (harg2 : arg2.IsWhole) (arg3 : Memref sig .tc .vmem S64x128x128 .bf16) (harg3 : arg3.IsWhole)
    (v1024 : FVec F S64x128 .bf16) (c0_i32 : BitVec 32) (X : BufTy.Contents (Elt F) arg3.view.ty) (k : Fin k0_t1_loop.trips) (acc : FVec F S64x128 .bf16) :
    tripR_k0_t1 𝒱 c bd i arg1 harg1 arg2 harg2 arg3 harg3 v1024 c0_i32 X k acc
      = stack fun n => step16 n (View.readAt (Elt F) arg3.view (box n).toLoadRect X) acc := by
  unfold tripR_k0_t1 trip_k0_t1
  rfl

section run

variable (c : Dev nD) (i : grid0.Coords) (arg1 : Memref sig .tc .vmem S64x128x128 .f32) (harg1 : arg1.IsWhole)
  (arg2 : Memref sig .tc .vmem S64x128x128 .f32) (harg2 : arg2.IsWhole) (arg3 : Memref sig .tc .vmem S64x128x128 .bf16) (harg3 : arg3.IsWhole)
  (x0 : FVec F S64x128x128 .f32)

/-- Matrix `n` of the input block, as the run reads it. -/
def mat (n : Fin 64) : Vec F S1x128x128 .f32 := View.readAt (Elt F) arg1.view (box n).toLoadRect (harg1.unread x0)

/-- The scratch after the first pass: one bf16 piece per matrix, the last written first. -/
theorem scratch_eq : kernelRun0_A.sl.HS0_64 (F := F) c arg1 harg1 x0
    = (List.ofFn fun n : Fin 64 => (⟨box n.rev, k16 (mat arg1 harg1 x0 n.rev)⟩ : View.Piece (Elt F) S64x128x128 .bf16)) := rfl

/-- The output block after the first pass: one f32 piece per matrix, the last written first. -/
theorem first_eq : kernelRun0_A.sl.H1_64 (F := F) c arg1 harg1 x0
    = (List.ofFn fun n : Fin 64 => (⟨box n.rev, k32 (mat arg1 harg1 x0 n.rev)⟩ : View.Piece (Elt F) S64x128x128 .f32)) := rfl

/-- The scratch's buffer after the first pass. -/
def scratch : BufTy.Contents (Elt F) arg3.view.ty :=
  arg3.view.writes (Elt F) arg3.view.junk (kernelRun0_A.sl.HS0_64 (F := F) c arg1 harg1 x0)

/-- The column factors after `t` trips of the bf16 loop, begun at 1. -/
def loopAt : ℕ → FVec F S64x128 .bf16
  | 0 => broadcast S64x128 (Scalar.ofBits .bf16 0x3F80#16)
  | t + 1 => stack fun n => step16 n (View.readAt (Elt F) arg3.view (box n).toLoadRect (scratch c arg1 harg1 arg3 x0)) (loopAt t)

theorem loop_eq : ∀ t : ℕ, t ≤ k0_t1_loop.trips →
    st_k0_t1 (F := F) Variants.none c none i arg1 harg1 arg2 harg2 arg3 harg3 k0_pay383 0#32 (scratch c arg1 harg1 arg3 x0) k0_pay383 t
      = loopAt c arg1 harg1 arg3 x0 t
  | 0, _ => rfl
  | t + 1, h => by
    have e := st_k0_t1_succ (F := F) Variants.none c none i arg1 harg1 arg2 harg2 arg3 harg3 k0_pay383 0#32 (scratch c arg1 harg1 arg3 x0) k0_pay383 ⟨t, h⟩
    refine e.trans ?_
    rw [trip_eq, loop_eq t (Nat.le_of_succ_le h)]
    rfl

/-- The f32 column factors: those the bf16 loop ends with, and those after the f32 scaling. -/
theorem before_eq : kernelRun0_A.sl.r_29 (F := F) c i arg1 harg1 arg2 harg2 arg3 harg3 x0
    = extf .f32 (loopAt c arg1 harg1 arg3 x0 19) bitsLt_bf16_f32 := by
  rw [← loop_eq c i arg1 harg1 arg2 harg2 arg3 harg3 x0 19 (by decide)]
  rfl

theorem after_eq : kernelRun0_A.sl.r_134 (F := F) c i arg1 harg1 arg2 harg2 arg3 harg3 x0
    = stack fun n => step32 n (arg2.view.readCov (kernelRun0_A.sl.H1_64 (F := F) c arg1 harg1 x0) (box n).toLoadRect)
        (kernelRun0_A.sl.r_29 (F := F) c i arg1 harg1 arg2 harg2 arg3 harg3 x0) := rfl

/-- The output block's pieces once the first `n` matrices hold their results. -/
def hist (n : ℕ) : List (View.Piece (Elt F) S64x128x128 .f32) :=
  match n with
    | 0 => kernelRun0_A.sl.H1_64 c arg1 harg1 x0
    | 1 => kernelRun0_A.sl.H1_65 c i arg1 harg1 arg2 harg2 arg3 harg3 x0
    | 2 => kernelRun0_A.sl.H1_66 c i arg1 harg1 arg2 harg2 arg3 harg3 x0
    | 3 => kernelRun0_A.sl.H1_67 c i arg1 harg1 arg2 harg2 arg3 harg3 x0
    | 4 => kernelRun0_A.sl.H1_68 c i arg1 harg1 arg2 harg2 arg3 harg3 x0
    | 5 => kernelRun0_A.sl.H1_69 c i arg1 harg1 arg2 harg2 arg3 harg3 x0
    | 6 => kernelRun0_A.sl.H1_70 c i arg1 harg1 arg2 harg2 arg3 harg3 x0
    | 7 => kernelRun0_A.sl.H1_71 c i arg1 harg1 arg2 harg2 arg3 harg3 x0
    | 8 => kernelRun0_A.sl.H1_72 c i arg1 harg1 arg2 harg2 arg3 harg3 x0
    | 9 => kernelRun0_A.sl.H1_73 c i arg1 harg1 arg2 harg2 arg3 harg3 x0
    | 10 => kernelRun0_A.sl.H1_74 c i arg1 harg1 arg2 harg2 arg3 harg3 x0
    | 11 => kernelRun0_A.sl.H1_75 c i arg1 harg1 arg2 harg2 arg3 harg3 x0
    | 12 => kernelRun0_A.sl.H1_76 c i arg1 harg1 arg2 harg2 arg3 harg3 x0
    | 13 => kernelRun0_A.sl.H1_77 c i arg1 harg1 arg2 harg2 arg3 harg3 x0
    | 14 => kernelRun0_A.sl.H1_78 c i arg1 harg1 arg2 harg2 arg3 harg3 x0
    | 15 => kernelRun0_A.sl.H1_79 c i arg1 harg1 arg2 harg2 arg3 harg3 x0
    | 16 => kernelRun0_A.sl.H1_80 c i arg1 harg1 arg2 harg2 arg3 harg3 x0
    | 17 => kernelRun0_A.sl.H1_81 c i arg1 harg1 arg2 harg2 arg3 harg3 x0
    | 18 => kernelRun0_A.sl.H1_82 c i arg1 harg1 arg2 harg2 arg3 harg3 x0
    | 19 => kernelRun0_A.sl.H1_83 c i arg1 harg1 arg2 harg2 arg3 harg3 x0
    | 20 => kernelRun0_A.sl.H1_84 c i arg1 harg1 arg2 harg2 arg3 harg3 x0
    | 21 => kernelRun0_A.sl.H1_85 c i arg1 harg1 arg2 harg2 arg3 harg3 x0
    | 22 => kernelRun0_A.sl.H1_86 c i arg1 harg1 arg2 harg2 arg3 harg3 x0
    | 23 => kernelRun0_A.sl.H1_87 c i arg1 harg1 arg2 harg2 arg3 harg3 x0
    | 24 => kernelRun0_A.sl.H1_88 c i arg1 harg1 arg2 harg2 arg3 harg3 x0
    | 25 => kernelRun0_A.sl.H1_89 c i arg1 harg1 arg2 harg2 arg3 harg3 x0
    | 26 => kernelRun0_A.sl.H1_90 c i arg1 harg1 arg2 harg2 arg3 harg3 x0
    | 27 => kernelRun0_A.sl.H1_91 c i arg1 harg1 arg2 harg2 arg3 harg3 x0
    | 28 => kernelRun0_A.sl.H1_92 c i arg1 harg1 arg2 harg2 arg3 harg3 x0
    | 29 => kernelRun0_A.sl.H1_93 c i arg1 harg1 arg2 harg2 arg3 harg3 x0
    | 30 => kernelRun0_A.sl.H1_94 c i arg1 harg1 arg2 harg2 arg3 harg3 x0
    | 31 => kernelRun0_A.sl.H1_95 c i arg1 harg1 arg2 harg2 arg3 harg3 x0
    | 32 => kernelRun0_A.sl.H1_96 c i arg1 harg1 arg2 harg2 arg3 harg3 x0
    | 33 => kernelRun0_A.sl.H1_97 c i arg1 harg1 arg2 harg2 arg3 harg3 x0
    | 34 => kernelRun0_A.sl.H1_98 c i arg1 harg1 arg2 harg2 arg3 harg3 x0
    | 35 => kernelRun0_A.sl.H1_99 c i arg1 harg1 arg2 harg2 arg3 harg3 x0
    | 36 => kernelRun0_A.sl.H1_100 c i arg1 harg1 arg2 harg2 arg3 harg3 x0
    | 37 => kernelRun0_A.sl.H1_101 c i arg1 harg1 arg2 harg2 arg3 harg3 x0
    | 38 => kernelRun0_A.sl.H1_102 c i arg1 harg1 arg2 harg2 arg3 harg3 x0
    | 39 => kernelRun0_A.sl.H1_103 c i arg1 harg1 arg2 harg2 arg3 harg3 x0
    | 40 => kernelRun0_A.sl.H1_104 c i arg1 harg1 arg2 harg2 arg3 harg3 x0
    | 41 => kernelRun0_A.sl.H1_105 c i arg1 harg1 arg2 harg2 arg3 harg3 x0
    | 42 => kernelRun0_A.sl.H1_106 c i arg1 harg1 arg2 harg2 arg3 harg3 x0
    | 43 => kernelRun0_A.sl.H1_107 c i arg1 harg1 arg2 harg2 arg3 harg3 x0
    | 44 => kernelRun0_A.sl.H1_108 c i arg1 harg1 arg2 harg2 arg3 harg3 x0
    | 45 => kernelRun0_A.sl.H1_109 c i arg1 harg1 arg2 harg2 arg3 harg3 x0
    | 46 => kernelRun0_A.sl.H1_110 c i arg1 harg1 arg2 harg2 arg3 harg3 x0
    | 47 => kernelRun0_A.sl.H1_111 c i arg1 harg1 arg2 harg2 arg3 harg3 x0
    | 48 => kernelRun0_A.sl.H1_112 c i arg1 harg1 arg2 harg2 arg3 harg3 x0
    | 49 => kernelRun0_A.sl.H1_113 c i arg1 harg1 arg2 harg2 arg3 harg3 x0
    | 50 => kernelRun0_A.sl.H1_114 c i arg1 harg1 arg2 harg2 arg3 harg3 x0
    | 51 => kernelRun0_A.sl.H1_115 c i arg1 harg1 arg2 harg2 arg3 harg3 x0
    | 52 => kernelRun0_A.sl.H1_116 c i arg1 harg1 arg2 harg2 arg3 harg3 x0
    | 53 => kernelRun0_A.sl.H1_117 c i arg1 harg1 arg2 harg2 arg3 harg3 x0
    | 54 => kernelRun0_A.sl.H1_118 c i arg1 harg1 arg2 harg2 arg3 harg3 x0
    | 55 => kernelRun0_A.sl.H1_119 c i arg1 harg1 arg2 harg2 arg3 harg3 x0
    | 56 => kernelRun0_A.sl.H1_120 c i arg1 harg1 arg2 harg2 arg3 harg3 x0
    | 57 => kernelRun0_A.sl.H1_121 c i arg1 harg1 arg2 harg2 arg3 harg3 x0
    | 58 => kernelRun0_A.sl.H1_122 c i arg1 harg1 arg2 harg2 arg3 harg3 x0
    | 59 => kernelRun0_A.sl.H1_123 c i arg1 harg1 arg2 harg2 arg3 harg3 x0
    | 60 => kernelRun0_A.sl.H1_124 c i arg1 harg1 arg2 harg2 arg3 harg3 x0
    | 61 => kernelRun0_A.sl.H1_125 c i arg1 harg1 arg2 harg2 arg3 harg3 x0
    | 62 => kernelRun0_A.sl.H1_126 c i arg1 harg1 arg2 harg2 arg3 harg3 x0
    | 63 => kernelRun0_A.sl.H1_127 c i arg1 harg1 arg2 harg2 arg3 harg3 x0
    | _ => (kernelRun0_A c i arg1 harg1 arg2 harg2 arg3 harg3 x0).1

theorem hist_succ (n : Fin 64) : hist (F := F) c i arg1 harg1 arg2 harg2 arg3 harg3 x0 (n.val + 1)
    = ⟨box n, last32 n (arg2.view.readCov (hist (F := F) c i arg1 harg1 arg2 harg2 arg3 harg3 x0 n.val) (box n).toLoadRect)
        (kernelRun0_A.sl.r_134 (F := F) c i arg1 harg1 arg2 harg2 arg3 harg3 x0)⟩
      :: hist (F := F) c i arg1 harg1 arg2 harg2 arg3 harg3 x0 n.val := by
  fin_cases n <;> rfl

end run

/-! ## What the pieces leave -/

theorem box_disjoint {m n : Fin 64} (h : m ≠ n) : Disjoint (box m).set (box n).set := by
  have h' : m.val ≠ n.val := fun e => h (Fin.ext e)
  refine Rect.unit_disjoint 0 ?_
  show m.val + 1 ≤ n.val ∨ n.val + 1 ≤ m.val
  omega

theorem box_not_mem {m n : Fin 64} (h : m ≠ n) (x : S1x128x128.Idx) : (box n).emb x ∉ (box m).set :=
  Finset.disjoint_right.mp (box_disjoint h) ((box n).idx_mem x)

/-- One piece per matrix, whatever their order: matrix `n` holds its piece. -/
theorem canon_boxes {e : EltTy} (w : Fin 64 → S1x128x128.Idx → Elt F e) (n : Fin 64) (x : S1x128x128.Idx) :
    ∀ l : List (Fin 64), n ∈ l →
      View.canon (l.map fun k => (⟨box k, w k⟩ : View.Piece (Elt F) S64x128x128 e)) ((box n).emb x) = w n x
  | [], h => absurd h List.not_mem_nil
  | k :: l, h => by
    rw [List.map_cons]
    by_cases hk : k = n
    · subst hk
      exact View.canon_cons_emb (box k) (w k) _ x
    · have h1 : (box n).emb x ∉ (⟨box k, w k⟩ : View.Piece (Elt F) S64x128x128 e).1.set := box_not_mem hk x
      refine (View.canon_cons_of_not_mem _ _ h1).trans ?_
      exact canon_boxes w n x l ((List.mem_cons.mp h).resolve_left fun e => hk e.symm)

theorem canon_all {e : EltTy} (w : Fin 64 → S1x128x128.Idx → Elt F e) (n : Fin 64) (x : S1x128x128.Idx) :
    View.canon (List.ofFn fun k : Fin 64 => (⟨box k.rev, w k.rev⟩ : View.Piece (Elt F) S64x128x128 e)) ((box n).emb x) = w n x := by
  have h : (List.ofFn fun k : Fin 64 => (⟨box k.rev, w k.rev⟩ : View.Piece (Elt F) S64x128x128 e))
      = (List.ofFn fun k : Fin 64 => k.rev).map fun k => ⟨box k, w k⟩ := by
    rw [List.map_ofFn]; rfl
  rw [h]
  exact canon_boxes w n x _ ((List.mem_ofFn' _ _).mpr ⟨n.rev, Fin.rev_rev n⟩)

section run

variable (c : Dev nD) (i : grid0.Coords) (arg1 : Memref sig .tc .vmem S64x128x128 .f32) (harg1 : arg1.IsWhole)
  (arg2 : Memref sig .tc .vmem S64x128x128 .f32) (harg2 : arg2.IsWhole) (arg3 : Memref sig .tc .vmem S64x128x128 .bf16) (harg3 : arg3.IsWhole)
  (x0 : FVec F S64x128x128 .f32)

theorem mat_apply (n : Fin 64) (x : S1x128x128.Idx) : mat arg1 harg1 x0 n x = x0 ((box n).emb x) :=
  Memref.IsWhole.readAt_unread (Val := Elt F) (e := .f32) harg1 x0 (box n).toLoadRect x

/-- What the loop reads of matrix `n` is what the first pass stored. -/
theorem load16 (n : Fin 64) : View.readAt (Elt F) arg3.view (box n).toLoadRect (scratch c arg1 harg1 arg3 x0) = k16 (mat arg1 harg1 x0 n) := by
  unfold scratch
  rw [View.readAt_writes_junk_eq_canon, scratch_eq]
  exact funext fun x => canon_all (e := .bf16) (fun k => k16 (mat arg1 harg1 x0 k)) n x

/-- The column factors of the bf16 loop, of the stored matrices alone. -/
def cols16 (k : Fin 64 → Vec F S1x128x128 .bf16) : ℕ → FVec F S64x128 .bf16
  | 0 => broadcast S64x128 (Scalar.ofBits .bf16 0x3F80#16)
  | t + 1 => stack fun n => step16 n (k n) (cols16 k t)

theorem loopAt_eq : ∀ t, loopAt c arg1 harg1 arg3 x0 t = cols16 (fun n => k16 (mat arg1 harg1 x0 n)) t
  | 0 => rfl
  | t + 1 => by
    rw [loopAt, cols16, loopAt_eq t]
    exact congrArg stack (funext fun n => by rw [load16])

/-- What an f32 load reads of a matrix not yet overwritten. -/
theorem load32 (n : Fin 64) : ∀ k : ℕ, k ≤ n.val →
    arg2.view.readCov (hist (F := F) c i arg1 harg1 arg2 harg2 arg3 harg3 x0 k) (box n).toLoadRect = k32 (mat arg1 harg1 x0 n)
  | 0, _ => by
    rw [View.readCov_eq_canon']
    show (fun j => View.canon (kernelRun0_A.sl.H1_64 (F := F) c arg1 harg1 x0) _) = _
    rw [first_eq]
    exact funext fun x => canon_all (e := .f32) (fun k => k32 (mat arg1 harg1 x0 k)) n x
  | k + 1, h => by
    have hk : k < 64 := by have := n.isLt; omega
    have e := hist_succ (F := F) c i arg1 harg1 arg2 harg2 arg3 harg3 x0 ⟨k, hk⟩
    rw [e, View.readCov_cons_of_disjoint]
    · exact load32 n k (Nat.le_of_succ_le h)
    · exact box_disjoint fun e => by rw [Fin.ext_iff] at e; dsimp only at e; omega

/-- The column factors before the last scaling. -/
def cols32 (x : Fin 64 → Vec F S1x128x128 .f32) : FVec F S64x128 .f32 :=
  stack fun n => step32 n (k32 (x n)) (extf .f32 (cols16 (fun n => k16 (x n)) 19) bitsLt_bf16_f32)

theorem cols32_eq : kernelRun0_A.sl.r_134 (F := F) c i arg1 harg1 arg2 harg2 arg3 harg3 x0 = cols32 (mat arg1 harg1 x0) := by
  rw [after_eq, before_eq, loopAt_eq]
  exact congrArg stack (funext fun n => by
    have := load32 (F := F) c i arg1 harg1 arg2 harg2 arg3 harg3 x0 n 0 (Nat.zero_le _)
    exact congrArg (fun k => step32 n k _) this)

theorem canon_hist (n : Fin 64) (x : S1x128x128.Idx) : ∀ k : ℕ, n.val < k → k ≤ 64 →
    View.canon (hist (F := F) c i arg1 harg1 arg2 harg2 arg3 harg3 x0 k) ((box n).emb x)
      = last32 n (k32 (mat arg1 harg1 x0 n)) (cols32 (mat arg1 harg1 x0)) x
  | 0, h, _ => absurd h (Nat.not_lt_zero _)
  | k + 1, h, h' => by
    have e := hist_succ (F := F) c i arg1 harg1 arg2 harg2 arg3 harg3 x0 ⟨k, h'⟩
    rw [e]
    by_cases hk : k = n.val
    · subst hk
      refine (View.canon_cons_emb (box n) _ _ x).trans ?_
      rw [cols32_eq]
      exact congrArg (fun v => last32 n v _ x) (load32 c i arg1 harg1 arg2 harg2 arg3 harg3 x0 n n.val (Nat.le_refl _))
    · refine (View.canon_cons_of_not_mem _ _ ?_).trans ?_
      · exact box_not_mem (fun e => hk (congrArg Fin.val e)) x
      exact canon_hist n x k (by omega) (Nat.le_of_succ_le h')

/-- THE BLOCK the body leaves, matrix by matrix. -/
theorem out_box (n : Fin 64) (x : S1x128x128.Idx) :
    out0_A_1 c i arg1 harg1 arg2 harg2 arg3 harg3 x0 ((box n).emb x)
      = last32 n (k32 (mat arg1 harg1 x0 n)) (cols32 (mat arg1 harg1 x0)) x := by
  unfold out0_A_1
  rw [View.read_writes_junk_eq_canon]
  exact canon_hist c i arg1 harg1 arg2 harg2 arg3 harg3 x0 n x 64 n.isLt (Nat.le_refl _)

end run

end Cert.KernelIdeal.Sinkhorn

end
-- ==== Proof.Scaling.lean ====
/- Sinkhorn's scaling of one matrix over the extended reals, no program in sight. The reference subtracts the logarithm of
   each row's sum, then of each column's, 21 times; the kernel keeps the matrix of exponentials and divides by row sums and
   column sums held at a floor. Where no sum lies below the floor, the two agree (`kernel_eq_reference`). -/
module

public import Idealize.ShloMosaic.PureOps.Ideal
public import Idealize.ShloMosaic.PureOps.Ideal.Laws

@[expose] public section

noncomputable section

namespace Scaling

open Idealize.ShloMosaic

variable {ι : Type} [Fintype ι]

/-- The largest entry, as the programs fold it. -/
abbrev top (f : ι → EReal) : EReal := Finset.fold max (⊥ : EReal) f Finset.univ

/-- The matrix of exponentials, each row shifted by its largest entry. -/
def expo (a : ι → ι → EReal) (i j : ι) : EReal := Ideal.exp (a i j - top (a i))

/-- The sums of one scaling, and the column factors after `t` scalings, no floor: the precondition's. -/
def rowSum (k : ι → ι → EReal) (c : ι → EReal) (i : ι) : EReal := ∑ l, k i l * c l
def colSum (k : ι → ι → EReal) (c : ι → EReal) (j : ι) : EReal := ∑ i, Ideal.div (k i j) (rowSum k c i)
def factors (k : ι → ι → EReal) : ℕ → ι → EReal
  | 0 => fun _ => 1
  | t + 1 => fun j => Ideal.div 1 (colSum k (factors k t) j)

/-- The kernel's scaling, each sum held at a floor from below. -/
def kRow (φ : EReal) (k : ι → ι → EReal) (c : ι → EReal) (i : ι) : EReal := Ideal.div 1 (max (∑ l, k i l * c l) φ)
def kCol (φ : EReal) (k : ι → ι → EReal) (c : ι → EReal) (j : ι) : EReal := Ideal.div 1 (max (∑ i, k i j * kRow φ k c i) φ)
def kFactors (φ : EReal) (k : ι → ι → EReal) : ℕ → ι → EReal
  | 0 => fun _ => 1
  | t + 1 => kCol φ k (kFactors φ k t)
def kResult (φ : EReal) (k : ι → ι → EReal) (c : ι → EReal) (i j : ι) : EReal := k i j * kRow φ k c i * kCol φ k c j

/-- The reference's step along one axis: `g` is the largest entry, let through a guard. -/
def lse (g : EReal) (f : ι → EReal) : EReal := Ideal.log (∑ l, Ideal.exp (f l - g)) + g

/-! ## Real numbers -/

theorem coe_sum (f : ι → ℝ) : (∑ l, ((f l : ℝ) : EReal)) = ((∑ l, f l : ℝ) : EReal) := by
  classical
  refine Finset.induction_on (Finset.univ : Finset ι) (by simp) fun a s ha h => ?_
  rw [Finset.sum_insert ha, Finset.sum_insert ha, h, EReal.coe_add]

theorem div_real (x y : ℝ) (h : y ≠ 0) : Ideal.div (x : EReal) (y : EReal) = ((x / y : ℝ) : EReal) := by
  rw [Ideal.div_coe h, ← EReal.coe_mul, mul_one_div]

theorem exp_log (p : ℝ) (h : 0 ≤ p) : Ideal.exp (Ideal.log (p : EReal)) = (p : EReal) := by
  rw [Ideal.log_coe]
  by_cases h0 : p ≤ 0
  · rw [if_pos h0, Ideal.exp_bot, le_antisymm h0 h]; rfl
  · rw [if_neg h0, Ideal.exp_coe, Real.exp_log (not_le.mp h0)]

/-- Off `⊤`, an entry is the logarithm of its exponential. -/
theorem log_exp (a : EReal) (h : a ≠ ⊤) : ∃ p : ℝ, 0 ≤ p ∧ a = Ideal.log (p : EReal) := by
  induction a using EReal.rec with
  | bot => exact ⟨0, le_refl _, by rw [Ideal.log_coe, if_pos (le_refl _)]⟩
  | top => exact absurd rfl h
  | coe r => exact ⟨Real.exp r, (Real.exp_pos r).le, by rw [Ideal.log_coe, if_neg (not_le.mpr (Real.exp_pos r)), Real.log_exp]⟩

theorem exp_log_sub (p m : ℝ) (h : 0 ≤ p) : Ideal.exp (Ideal.log (p : EReal) - (m : EReal)) = ((p * Real.exp (-m) : ℝ) : EReal) := by
  rw [Ideal.log_coe]
  by_cases h0 : p ≤ 0
  · rw [if_pos h0, EReal.bot_sub, Ideal.exp_bot, le_antisymm h0 h, zero_mul]; rfl
  · rw [if_neg h0, ← EReal.coe_sub, Ideal.exp_coe, sub_eq_add_neg, Real.exp_add, Real.exp_log (not_le.mp h0)]

theorem log_sub_log (p S : ℝ) (h : 0 ≤ p) (hS : 0 < S) :
    Ideal.log (p : EReal) - ((Real.log S : ℝ) : EReal) = Ideal.log ((p / S : ℝ) : EReal) := by
  rw [Ideal.log_coe, Ideal.log_coe]
  by_cases h0 : p ≤ 0
  · rw [if_pos h0, EReal.bot_sub, le_antisymm h0 h, zero_div, if_pos (le_refl _)]
  · have hp := not_le.mp h0
    rw [if_neg h0, if_neg (not_le.mpr (div_pos hp hS)), ← EReal.coe_sub, Real.log_div hp.ne' hS.ne']

theorem top_eq (f : ι → EReal) : top f = Finset.univ.sup f := rfl

/-- The largest of finitely many logarithms of reals, one of them positive, is a real. -/
theorem top_real (f : ι → ℝ) (hS : 0 < ∑ l, f l) : ∃ m : ℝ, top (fun l => Ideal.log (f l : EReal)) = (m : EReal) := by
  obtain ⟨x, -, hx⟩ : ∃ x ∈ Finset.univ, 0 < f x := by
    by_contra hn
    push Not at hn
    exact absurd (Finset.sum_nonpos hn) (not_le.mpr hS)
  have hb : top (fun l => Ideal.log (f l : EReal)) ≠ ⊥ := by
    intro hb
    have hle : Ideal.log (f x : EReal) ≤ top (fun l => Ideal.log (f l : EReal)) :=
      Finset.le_sup (f := fun l => Ideal.log (f l : EReal)) (Finset.mem_univ x)
    rw [hb, Ideal.log_coe, if_neg (not_le.mpr hx)] at hle
    exact absurd (le_bot_iff.mp hle) (EReal.coe_ne_bot _)
  have ht : top (fun l => Ideal.log (f l : EReal)) < ⊤ := by
    rw [top_eq]
    refine (Finset.sup_lt_iff bot_lt_top).mpr fun l _ => ?_
    rw [Ideal.log_coe]
    split
    · exact bot_lt_top
    · exact EReal.coe_lt_top _
  exact ⟨_, (EReal.coe_toReal ht.ne hb).symm⟩

/-- The shifted form is the logarithm of the sum, whatever the real shift. -/
theorem lse_real (f : ι → ℝ) (hf : ∀ l, 0 ≤ f l) (hS : 0 < ∑ l, f l) (m : ℝ) :
    lse (m : EReal) (fun l => Ideal.log (f l : EReal)) = ((Real.log (∑ l, f l) : ℝ) : EReal) := by
  unfold lse
  have e : ∀ l, Ideal.exp (Ideal.log (f l : EReal) - (m : EReal)) = ((f l * Real.exp (-m) : ℝ) : EReal) := fun l => exp_log_sub _ _ (hf l)
  simp only [e]
  rw [coe_sum, ← Finset.sum_mul, Ideal.log_coe, if_neg (not_le.mpr (mul_pos hS (Real.exp_pos _))),
    Real.log_mul hS.ne' (Real.exp_pos _).ne', Real.log_exp, ← EReal.coe_add, neg_add_cancel_right]

/-! ## The sums in real numbers -/

def rU (k : ι → ι → ℝ) (c : ι → ℝ) (i : ι) : ℝ := ∑ l, k i l * c l
def rV (k : ι → ι → ℝ) (c : ι → ℝ) (j : ι) : ℝ := ∑ i, k i j / rU k c i
def rC (k : ι → ι → ℝ) : ℕ → ι → ℝ
  | 0 => fun _ => 1
  | t + 1 => fun j => 1 / rV k (rC k t) j

variable (k : ι → ι → ℝ)

abbrev up (k : ι → ι → ℝ) : ι → ι → EReal := fun i j => (k i j : EReal)
abbrev up1 (c : ι → ℝ) : ι → EReal := fun j => (c j : EReal)

theorem rowSum_real (c : ι → ℝ) (i : ι) : rowSum (up k) (up1 c) i = (rU k c i : EReal) := by
  unfold rowSum rU
  rw [← coe_sum]
  exact Finset.sum_congr rfl fun l _ => (EReal.coe_mul _ _).symm

theorem colSum_real (c : ι → ℝ) (h : ∀ i, rU k c i ≠ 0) (j : ι) : colSum (up k) (up1 c) j = (rV k c j : EReal) := by
  unfold colSum rV
  rw [← coe_sum]
  exact Finset.sum_congr rfl fun i _ => by rw [rowSum_real, div_real _ _ (h i)]

theorem kRow_real (φ : ℝ) (hφ : 0 < φ) (c : ι → ℝ) (i : ι) (h : φ ≤ rU k c i) :
    kRow (φ : EReal) (up k) (up1 c) i = ((1 / rU k c i : ℝ) : EReal) := by
  have e := rowSum_real k c i
  unfold rowSum at e
  unfold kRow
  rw [e, max_eq_left (EReal.coe_le_coe_iff.mpr h)]
  exact div_real 1 _ (lt_of_lt_of_le hφ h).ne'

theorem kCol_real (φ : ℝ) (hφ : 0 < φ) (c : ι → ℝ) (j : ι) (h : ∀ i, φ ≤ rU k c i) (h' : φ ≤ rV k c j) :
    kCol (φ : EReal) (up k) (up1 c) j = ((1 / rV k c j : ℝ) : EReal) := by
  have e : (∑ i, up k i j * kRow (φ : EReal) (up k) (up1 c) i) = (rV k c j : EReal) := by
    unfold rV
    rw [← coe_sum]
    exact Finset.sum_congr rfl fun i _ => by rw [kRow_real k φ hφ c i (h i), ← EReal.coe_mul, mul_one_div]
  unfold kCol
  rw [e, max_eq_left (EReal.coe_le_coe_iff.mpr h')]
  exact div_real 1 _ (lt_of_lt_of_le hφ h').ne'

/-- No sum of the first `T` scalings lies below `ε`. -/
def Above (ε : EReal) (k : ι → ι → EReal) (T : ℕ) : Prop :=
  ∀ t < T, (∀ i, ε ≤ rowSum k (factors k t) i) ∧ ∀ j, ε ≤ colSum k (factors k t) j

/-- Then every sum is a real from `ε` up, and every factor a positive real. -/
theorem reals (ε : ℝ) (hε : 0 < ε) (T : ℕ) (h : Above (ε : EReal) (up k) T) :
    ∀ t ≤ T, factors (up k) t = up1 (rC k t) ∧ (∀ j, 0 < rC k t j)
      ∧ (t < T → (∀ i, ε ≤ rU k (rC k t) i) ∧ ∀ j, ε ≤ rV k (rC k t) j) := by
  have key : ∀ t, t < T → factors (up k) t = up1 (rC k t) → (∀ i, ε ≤ rU k (rC k t) i) ∧ ∀ j, ε ≤ rV k (rC k t) j := by
    intro t ht e
    obtain ⟨h1, h2⟩ := h t ht
    have hU : ∀ i, ε ≤ rU k (rC k t) i := fun i => by
      have := h1 i
      rw [e, rowSum_real] at this
      exact EReal.coe_le_coe_iff.mp this
    refine ⟨hU, fun j => ?_⟩
    have := h2 j
    rw [e, colSum_real k _ fun i => (lt_of_lt_of_le hε (hU i)).ne'] at this
    exact EReal.coe_le_coe_iff.mp this
  intro t
  induction t with
  | zero => exact fun _ => ⟨rfl, fun j => one_pos, fun ht => key 0 ht rfl⟩
  | succ t ih =>
    intro ht
    obtain ⟨e, -, hb⟩ := ih (Nat.le_of_succ_le ht)
    obtain ⟨hU, hV⟩ := hb ht
    have e' : factors (up k) (t + 1) = up1 (rC k (t + 1)) := by
      funext j
      show Ideal.div 1 (colSum (up k) (factors (up k) t) j) = ((1 / rV k (rC k t) j : ℝ) : EReal)
      rw [e, colSum_real k _ fun i => (lt_of_lt_of_le hε (hU i)).ne']
      exact div_real 1 _ (lt_of_lt_of_le hε (hV j)).ne'
    exact ⟨e', fun j => one_div_pos.mpr (lt_of_lt_of_le hε (hV j)), fun ht' => key _ ht' e'⟩

theorem kFactors_real (φ ε : ℝ) (hφ : 0 < φ) (hφε : φ ≤ ε) (T : ℕ) (h : Above (ε : EReal) (up k) T) :
    ∀ t ≤ T, kFactors (φ : EReal) (up k) t = up1 (rC k t) := by
  intro t
  induction t with
  | zero => exact fun _ => rfl
  | succ t ih =>
    intro ht
    obtain ⟨-, -, hb⟩ := reals k ε (lt_of_lt_of_le hφ hφε) T h t (Nat.le_of_succ_le ht)
    obtain ⟨hU, hV⟩ := hb ht
    funext j
    show kCol (φ : EReal) (up k) (kFactors (φ : EReal) (up k) t) j = _
    rw [ih (Nat.le_of_succ_le ht)]
    exact kCol_real k φ hφ _ j (fun i => hφε.trans (hU i)) (hφε.trans (hV j))

/-- One trip of the reference: rows, then columns, with any guard that lets real maxima through. -/
structure Trip (a r a' : ι → ι → EReal) : Prop where
  row : ∀ i, ∃ g : EReal, (∀ m : ℝ, top (a i) = (m : EReal) → g = (m : EReal)) ∧ ∀ j, r i j = a i j - lse g (a i)
  col : ∀ j, ∃ g : EReal, (∀ m : ℝ, top (fun i => r i j) = (m : EReal) → g = (m : EReal))
    ∧ ∀ i, a' i j = r i j - lse g (fun i => r i j)

/-- On logarithms of nonnegative reals with positive sums, a step divides by the sum. -/
theorem step_real (f : ι → ℝ) (hf : ∀ l, 0 ≤ f l) (hS : 0 < ∑ l, f l) (g : EReal)
    (hg : ∀ m : ℝ, top (fun l => Ideal.log (f l : EReal)) = (m : EReal) → g = (m : EReal)) (l : ι) :
    Ideal.log (f l : EReal) - lse g (fun l => Ideal.log (f l : EReal)) = Ideal.log ((f l / ∑ l, f l : ℝ) : EReal) := by
  obtain ⟨m, hm⟩ := top_real f hS
  rw [hg m hm, lse_real f hf hS m, log_sub_log _ _ (hf l) hS]

theorem trip_real (P : ι → ι → ℝ) (hP : ∀ i j, 0 ≤ P i j) (hS : ∀ i, 0 < ∑ l, P i l)
    (hC : ∀ j, 0 < ∑ i, P i j / ∑ l, P i l) (r a' : ι → ι → EReal)
    (h : Trip (fun i j => Ideal.log (P i j : EReal)) r a') (i j : ι) :
    a' i j = Ideal.log (((P i j / ∑ l, P i l) / ∑ i, P i j / ∑ l, P i l : ℝ) : EReal) := by
  have hr : ∀ i j, r i j = Ideal.log ((P i j / ∑ l, P i l : ℝ) : EReal) := fun i j => by
    obtain ⟨g, hg, e⟩ := h.row i
    rw [e j]
    exact step_real (P i) (hP i) (hS i) g hg j
  obtain ⟨g, hg, e⟩ := h.col j
  rw [e i]
  simp only [hr] at hg ⊢
  exact step_real (fun i => P i j / ∑ l, P i l) (fun i => div_nonneg (hP i j) (hS i).le) (hC j) g hg i

/-- THE EQUATION. `a` is the matrix divided by the temperature, `la` the reference's 21 trips from it. -/
theorem kernel_eq_reference (φ ε : ℝ) (hφ : 0 < φ) (hφε : φ ≤ ε) (T : ℕ) (la lr : ℕ → ι → ι → EReal)
    (htrip : ∀ t, Trip (la t) (lr t) (la (t + 1))) (h : Above (ε : EReal) (expo (la 0)) (T + 1)) (i j : ι) :
    kResult (φ : EReal) (expo (la 0)) (kFactors (φ : EReal) (expo (la 0)) T) i j = Ideal.exp (la (T + 1) i j) := by
  have hε : 0 < ε := lt_of_lt_of_le hφ hφε
  -- every row's maximum is real: otherwise the whole row of exponentials, and its sum, is 0
  have hrow : ∀ i, ∃ m : ℝ, top (la 0 i) = (m : EReal) := fun i => by
    have hne : top (la 0 i) ≠ ⊥ ∧ top (la 0 i) ≠ ⊤ := by
      by_contra hn
      have hz : ∀ j, expo (la 0) i j = 0 := fun j => by
        unfold expo
        by_cases ht : top (la 0 i) = ⊤
        · rw [ht, EReal.sub_top, Ideal.exp_bot]
        · have hb : top (la 0 i) = ⊥ := by by_contra hb; exact hn ⟨hb, ht⟩
          have hle : la 0 i j ≤ top (la 0 i) := Finset.le_sup (f := la 0 i) (Finset.mem_univ j)
          rw [hb] at hle
          rw [le_bot_iff.mp hle, EReal.bot_sub, Ideal.exp_bot]
      have h0 := (h 0 (Nat.succ_pos T)).1 i
      unfold rowSum at h0
      simp only [hz, zero_mul, Finset.sum_const_zero] at h0
      exact absurd (EReal.coe_le_coe_iff.mp h0) (not_le.mpr hε)
    exact ⟨_, (EReal.coe_toReal hne.2 hne.1).symm⟩
  choose m hm using hrow
  have hp : ∀ i j, ∃ p : ℝ, 0 ≤ p ∧ la 0 i j = Ideal.log (p : EReal) := fun i j =>
    log_exp _ fun ht => by
      have hle : la 0 i j ≤ top (la 0 i) := Finset.le_sup (f := la 0 i) (Finset.mem_univ j)
      rw [ht, hm i] at hle
      exact absurd (top_le_iff.mp hle) (EReal.coe_ne_top _)
  choose p hp0 hp using hp
  let k : ι → ι → ℝ := fun i j => p i j * Real.exp (-m i)
  have hk : expo (la 0) = up k := funext fun i => funext fun j => by
    show Ideal.exp (la 0 i j - top (la 0 i)) = _
    rw [hm i, hp i j]
    exact exp_log_sub _ _ (hp0 i j)
  have hk0 : ∀ i j, 0 ≤ k i j := fun i j => mul_nonneg (hp0 i j) (Real.exp_pos _).le
  rw [hk] at h ⊢
  have R := reals k ε hε (T + 1) h
  -- the matrix before trip `t`, up to its row sums
  have main : ∀ t, t ≤ T → ∀ i j, la (t + 1) i j = Ideal.log ((k i j / rU k (rC k t) i / rV k (rC k t) j : ℝ) : EReal) := by
    intro t
    -- a matrix whose rows are those of `k * c` up to positive factors
    have one : ∀ (t : ℕ), t ≤ T → ∀ w : ι → ℝ, (∀ i, 0 < w i) → (∀ i j, la t i j = Ideal.log ((w i * (k i j * rC k t j) : ℝ) : EReal)) →
        ∀ i j, la (t + 1) i j = Ideal.log ((k i j / rU k (rC k t) i / rV k (rC k t) j : ℝ) : EReal) := by
      intro t ht w hw hl i j
      obtain ⟨-, hc, hb⟩ := R t (Nat.le_succ_of_le ht)
      obtain ⟨hU, hV⟩ := hb (Nat.lt_succ_of_le ht)
      have hU0 : ∀ i, 0 < rU k (rC k t) i := fun i => lt_of_lt_of_le hε (hU i)
      have hV0 : ∀ j, 0 < rV k (rC k t) j := fun j => lt_of_lt_of_le hε (hV j)
      have hs : ∀ i, (∑ l, w i * (k i l * rC k t l)) = w i * rU k (rC k t) i := fun i => (Finset.mul_sum _ _ _).symm
      have hq : ∀ i j, (w i * (k i j * rC k t j)) / (∑ l, w i * (k i l * rC k t l)) = k i j / rU k (rC k t) i * rC k t j := fun i j => by
        rw [hs i, mul_div_mul_left _ _ (hw i).ne', mul_div_right_comm]
      have hcs : ∀ j, (∑ i, (w i * (k i j * rC k t j)) / (∑ l, w i * (k i l * rC k t l))) = rV k (rC k t) j * rC k t j := fun j => by
        simp only [hq]
        exact (Finset.sum_mul _ _ _).symm
      have hT := htrip t
      rw [show la t = fun i j => Ideal.log ((w i * (k i j * rC k t j) : ℝ) : EReal) from funext fun i => funext fun j => hl i j] at hT
      have := trip_real (fun i j => w i * (k i j * rC k t j)) (fun i j => mul_nonneg (hw i).le (mul_nonneg (hk0 i j) (hc j).le))
        (fun i => by rw [hs i]; exact mul_pos (hw i) (hU0 i)) (fun j => by rw [hcs j]; exact mul_pos (hV0 j) (hc j)) _ _ hT i j
      rw [this, hq i j, hcs j, mul_div_mul_right _ _ (hc j).ne']
    induction t with
    | zero =>
      intro ht
      refine one 0 ht (fun i => Real.exp (m i)) (fun i => Real.exp_pos _) fun i j => ?_
      rw [hp i j]
      congr 2
      show p i j = Real.exp (m i) * (p i j * Real.exp (-m i) * 1)
      rw [mul_one, mul_left_comm, ← Real.exp_add, add_neg_cancel, Real.exp_zero, mul_one]
    | succ t ih =>
      intro ht
      obtain ⟨-, hc, hb⟩ := R t ((Nat.le_succ_of_le (Nat.le_of_succ_le ht)))
      obtain ⟨hU, hV⟩ := hb (Nat.lt_succ_of_le (Nat.le_of_succ_le ht))
      refine one (t + 1) ht (fun i => 1 / rU k (rC k t) i) (fun i => one_div_pos.mpr (lt_of_lt_of_le hε (hU i))) fun i j => ?_
      rw [ih (Nat.le_of_succ_le ht) i j]
      congr 2
      show k i j / rU k (rC k t) i / rV k (rC k t) j = 1 / rU k (rC k t) i * (k i j * (1 / rV k (rC k t) j))
      ring
  obtain ⟨-, hc, hb⟩ := R T (Nat.le_succ T)
  obtain ⟨hU, hV⟩ := hb (Nat.lt_succ_self T)
  rw [main T (le_refl T) i j, kFactors_real k φ ε hφ hφε (T + 1) h T (Nat.le_succ T)]
  unfold kResult
  rw [kRow_real k φ hφ _ i (hφε.trans (hU i)), kCol_real k φ hφ _ j (fun i => hφε.trans (hU i)) (hφε.trans (hV j)),
    ← EReal.coe_mul, ← EReal.coe_mul, exp_log _ (div_nonneg (div_nonneg (hk0 i j) (hε.le.trans (hU i))) (hε.le.trans (hV j)))]
  congr 1
  ring

end Scaling

end
-- ==== Proof.Read.lean ====
/- One grid step over the extended reals, read entry by entry. -/
module

public import proofs.«01_k».proof.Proof.Block
public import proofs.«01_k».proof.Proof.Scaling
public import Idealize.ShloMosaic.Lib.Pointwise

@[expose] public section

set_option maxRecDepth 16384

noncomputable section

namespace Cert.KernelIdeal.Sinkhorn

open Idealize.ShloMosaic Idealize.SL.Sem Cert.KernelIdeal Cert.KernelIdeal.Gen

/-! ## The named constants -/

/-- Their values over the extended reals. -/
abbrev scale : EReal := ((134217728 / 5368709 : ℝ) : EReal)
abbrev least : EReal := ((1 / 1000000000000000000000000000000 : ℝ) : EReal)

theorem scale_eq : Named.named (F := Ideal) (φ := .f32) κ "inv_temperature" 0x41C80000#32 = scale := rfl
theorem least16_eq : Named.named (F := Ideal) (φ := .bf16) κ "floor" 0x0DA2#16 = least := rfl
theorem least32_eq : Named.named (F := Ideal) (φ := .f32) κ "floor" 0x0DA24260#32 = least := rfl

theorem bot_word : Ideal.ofBits .f32 0xFF800000#32 = (⊥ : EReal) := by
  simp [Ideal.ofBits, Ideal.ieee]

/-! ## The operations of one trip -/

theorem kExp_apply (x : FVec Ideal S1x128x128 .f32) (i j : Fin 128) :
    kExp (F := Ideal) x (ix2 i j) = Scaling.expo (fun i j => x (ix3 0 i j) * scale) i j := by
  unfold Scaling.expo Scaling.top
  pointwise [kExp, bot_word, scale_eq]

theorem k16_apply (x : FVec Ideal S1x128x128 .f32) (i j : Fin 128) :
    k16 (F := Ideal) x (ix3 0 i j) = kExp (F := Ideal) x (ix2 i j) := by
  pointwise [k16]

theorem k32_apply (x : FVec Ideal S1x128x128 .f32) (i j : Fin 128) :
    k32 (F := Ideal) x (ix3 0 i j) = kExp (F := Ideal) x (ix2 i j) := by
  pointwise [k32]

theorem spread_apply {e : FTy} (n : Fin 64) (c : FVec Ideal S64x128 e) (i j : Fin 128) :
    spread (F := Ideal) n c (ix2 i j) = c (ix2 n j) := by
  pointwise [spread]

theorem step16_apply (n : Fin 64) (k : FVec Ideal S1x128x128 .bf16) (c : FVec Ideal S64x128 .bf16) (j : Fin 128) :
    step16 (F := Ideal) n k c (ix1 j) = Scaling.kCol least (fun i j => k (ix3 0 i j)) (fun j => c (ix2 n j)) j := by
  unfold Scaling.kCol Scaling.kRow
  pointwise [step16, spread_apply, least16_eq]

theorem rows32_apply (n : Fin 64) (k : FVec Ideal S1x128x128 .f32) (c : FVec Ideal S64x128 .f32) (i j : Fin 128) :
    rows32 (F := Ideal) n k c (ix2 i j) = k (ix3 0 i j) * Scaling.kRow least (fun i j => k (ix3 0 i j)) (fun j => c (ix2 n j)) i := by
  unfold Scaling.kRow
  pointwise [rows32, spread_apply, least32_eq]

theorem step32_apply (n : Fin 64) (k : FVec Ideal S1x128x128 .f32) (c : FVec Ideal S64x128 .f32) (j : Fin 128) :
    step32 (F := Ideal) n k c (ix1 j) = Scaling.kCol least (fun i j => k (ix3 0 i j)) (fun j => c (ix2 n j)) j := by
  unfold Scaling.kCol
  pointwise [step32, rows32_apply, least32_eq]

theorem last32_apply (n : Fin 64) (k : FVec Ideal S1x128x128 .f32) (c : FVec Ideal S64x128 .f32) (i j : Fin 128) :
    last32 (F := Ideal) n k c (ix3 0 i j)
      = Scaling.kResult least (fun i j => k (ix3 0 i j)) (fun j => c (ix2 n j)) i j := by
  unfold Scaling.kResult Scaling.kCol
  pointwise [last32, rows32_apply, least32_eq]

theorem stack_apply {e : FTy} (f : Fin 64 → FVec Ideal S128 e) (n : Fin 64) (j : Fin 128) :
    stack (F := Ideal) f (ix2 n j) = f n (ix1 j) := by
  unfold stack
  refine concatenate_ofFn_unit_eq (s₁ := S1x128) 0 (fun n => shapeCast S1x128 (f n) shapeCasts_S128_S1x128) _ (ix2 n j) _ rfl rfl
    fun k i h0 h1 h2 => ?_
  obtain rfl : n = k := Fin.ext h0
  have h2 := h2 1 (by decide)
  idx_vars i
  obtain rfl : i1 = j := Fin.ext h2
  obtain rfl : i0 = 0 := Subsingleton.elim _ _
  pointwise

/-! ## All the trips -/

theorem cols16_apply (k : Fin 64 → FVec Ideal S1x128x128 .bf16) (n : Fin 64) (t : ℕ) :
    ∀ j, cols16 (F := Ideal) k t (ix2 n j) = Scaling.kFactors least (fun i j => k n (ix3 0 i j)) t j := by
  induction t with
  | zero =>
    intro j
    show _ = (1 : EReal)
    unfold cols16
    pointwise
  | succ t ih =>
    intro j
    show stack (F := Ideal) (fun n => step16 (F := Ideal) n (k n) (cols16 (F := Ideal) k t)) (ix2 n j) = Scaling.kCol least _ _ j
    rw [stack_apply, step16_apply, show (fun j => cols16 (F := Ideal) k t (ix2 n j)) = _ from funext ih]

theorem cols32_apply (x : Fin 64 → FVec Ideal S1x128x128 .f32) (n : Fin 64) (j : Fin 128) :
    cols32 (F := Ideal) x (ix2 n j)
      = Scaling.kFactors least (Scaling.expo fun i j => x n (ix3 0 i j) * scale) 20 j := by
  have h16 : (fun i j => k16 (F := Ideal) (x n) (ix3 0 i j)) = Scaling.expo fun i j => x n (ix3 0 i j) * scale :=
    funext fun i => funext fun j => (k16_apply _ i j).trans (kExp_apply _ i j)
  have h32 : (fun i j => k32 (F := Ideal) (x n) (ix3 0 i j)) = Scaling.expo fun i j => x n (ix3 0 i j) * scale :=
    funext fun i => funext fun j => (k32_apply _ i j).trans (kExp_apply _ i j)
  have hc : (fun j => extf (F := Ideal) .f32 (cols16 (F := Ideal) (fun n => k16 (F := Ideal) (x n)) 19) bitsLt_bf16_f32 (ix2 n j))
      = Scaling.kFactors least (Scaling.expo fun i j => x n (ix3 0 i j) * scale) 19 := by
    funext j
    refine Eq.trans ?_ ((cols16_apply (fun n => k16 (F := Ideal) (x n)) n 19 j).trans ?_)
    · rfl
    · rw [h16]
  unfold cols32
  rw [stack_apply, step32_apply, h32, hc]
  rfl

/-- What one grid step leaves in the place of one matrix. -/
theorem block_apply (x : Fin 64 → FVec Ideal S1x128x128 .f32) (n : Fin 64) (i j : Fin 128) :
    last32 (F := Ideal) n (k32 (F := Ideal) (x n)) (cols32 (F := Ideal) x) (ix3 0 i j)
      = Scaling.kResult least (Scaling.expo fun i j => x n (ix3 0 i j) * scale)
          (Scaling.kFactors least (Scaling.expo fun i j => x n (ix3 0 i j) * scale) 20) i j := by
  have h32 : (fun i j => k32 (F := Ideal) (x n) (ix3 0 i j)) = Scaling.expo fun i j => x n (ix3 0 i j) * scale :=
    funext fun i => funext fun j => (k32_apply _ i j).trans (kExp_apply _ i j)
  rw [last32_apply, h32, show (fun j => cols32 (F := Ideal) x (ix2 n j)) = _ from funext (cols32_apply x n)]

end Cert.KernelIdeal.Sinkhorn

end
-- ==== Proof.Array.lean ====
/- The array after the kernel's run, at an index: matrix 64 · t + n is matrix n of grid step t. -/
module

public import proofs.«01_k».proof.Proof.Read
public import proofs.«01_k».proof.Proof.Gen.KernelIdeal.Value

@[expose] public section

set_option maxRecDepth 16384

noncomputable section

namespace Cert.KernelIdeal.Sinkhorn

open Idealize.ShloMosaic Idealize.ShloMosaic.TcCoe Idealize.SL.Sem Cert.KernelIdeal Cert.KernelIdeal.Gen

variable (m : (ℓ : Loc nD τ sig) → Buf (Elt Ideal) ℓ)

/-- The grid step and the place in its block of matrix `b`. -/
def stepOf (b : Fin 4096) : Fin cfg0.N := ⟨b.val / 64, by have : cfg0.N = 64 := by decide
                                                          omega⟩
def placeOf (b : Fin 4096) : Fin 64 := ⟨b.val % 64, Nat.mod_lt _ (by decide)⟩

/-- The argument array, as floats. -/
abbrev argument (c : Dev nD) : FVec Ideal S4096x128x128 .f32 := m ((c : Thread nD τ).loc main_arg0)

/-- A block's place in its array: 64 matrices a step. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem box_emb (n : Fin 64) (i j : Fin 128) : (box n).emb (ix3 0 i j) = (ix3 n i j : S64x128x128.Idx) := by
  funext a; apply Fin.ext
  match a with
  | ⟨0, _⟩ => show n.val + 1 * 0 = n.val; omega
  | ⟨1, _⟩ => show 0 + 1 * i.val = i.val; omega
  | ⟨2, _⟩ => show 0 + 1 * j.val = j.val; omega

theorem emb0 (b : Fin 4096) (i j : Fin 128) :
    ((cfg0.win 0).blk (stepOf b)).view.emb (ix3 (placeOf b) i j : S64x128x128.Idx) = (ix3 b i j : S4096x128x128.Idx) := by
  obtain ⟨e0, e1, e2, -, -, -⟩ := idx_facts (stepOf b)
  funext a; apply Fin.ext
  have h : (stepOf b).val = b.val / 64 := rfl
  match a with
  | ⟨0, _⟩ => show win0_0.index (stepOf b) (0 : Fin 3) * 64 + 1 * (b.val % 64) = b.val; omega
  | ⟨1, _⟩ => show win0_0.index (stepOf b) (1 : Fin 3) * 128 + 1 * i.val = i.val; omega
  | ⟨2, _⟩ => show win0_0.index (stepOf b) (2 : Fin 3) * 128 + 1 * j.val = j.val; omega

theorem emb1 (b : Fin 4096) (i j : Fin 128) :
    ((cfg0.win 1).blk (stepOf b)).view.emb (ix3 (placeOf b) i j : S64x128x128.Idx) = (ix3 b i j : S4096x128x128.Idx) := by
  obtain ⟨-, -, -, e0, e1, e2⟩ := idx_facts (stepOf b)
  funext a; apply Fin.ext
  have h : (stepOf b).val = b.val / 64 := rfl
  match a with
  | ⟨0, _⟩ => show win0_1.index (stepOf b) (0 : Fin 3) * 64 + 1 * (b.val % 64) = b.val; omega
  | ⟨1, _⟩ => show win0_1.index (stepOf b) (1 : Fin 3) * 128 + 1 * i.val = i.val; omega
  | ⟨2, _⟩ => show win0_1.index (stepOf b) (2 : Fin 3) * 128 + 1 * j.val = j.val; omega

theorem input_apply (c : Dev nD) (b : Fin 4096) (i j : Fin 128) :
    iblk m c 0 (stepOf b) (ix3 (placeOf b) i j : S64x128x128.Idx) = argument m c (ix3 b i j) := by
  show V m c main_arg0 (((cfg0.win 0).blk (stepOf b)).view.emb (ix3 (placeOf b) i j : S64x128x128.Idx)) = _
  rw [emb0]

theorem flushes : ∀ t : Fin cfg0.N, (cfg0.win 1).flush t = true :=
  (by decide +kernel : ∀ t : Fin grid0.N, _)

/-- THE RESULT AT AN INDEX. -/
theorem array_apply (c : Dev nD) (b : Fin 4096) (i j : Fin 128) :
    (dats m 0 c).arrAt 1 cfg0.N (ix3 b i j : S4096x128x128.Idx)
      = Scaling.kResult least (Scaling.expo fun i j => argument m c (ix3 b i j) * scale)
          (Scaling.kFactors least (Scaling.expo fun i j => argument m c (ix3 b i j) * scale) 20) i j := by
  have e := congrFun (Cert.KernelIdeal.Value.blocks1 m c (stepOf b) (flushes _)) (ix3 (placeOf b) i j : S64x128x128.Idx)
  rw [Cert.KernelIdeal.Value.flushed1_A] at e
  have e' : (dats m 0 c).arrAt 1 cfg0.N (((cfg0.win 1).blk (stepOf b)).view.emb (ix3 (placeOf b) i j : S64x128x128.Idx))
      = out0_A_1 c (grid0.coords (stepOf b)) (ms0_0 (stepOf b)) (hs0_0 (stepOf b)) (ms0_1 (stepOf b)) (hs0_1 (stepOf b)) scM0_0
          (Memref.isWhole_whole _) (iblk m c 0 (stepOf b)) (ix3 (placeOf b) i j : S64x128x128.Idx) := e
  rw [emb1] at e'
  rw [e', ← box_emb, out_box, block_apply]
  have hx : (fun i j => mat (F := Ideal) (ms0_0 (stepOf b)) (hs0_0 (stepOf b)) (iblk m c 0 (stepOf b)) (placeOf b) (ix3 0 i j) * scale)
      = fun i j => argument m c (ix3 b i j) * scale := by
    funext i j
    rw [mat_apply, box_emb, input_apply]
  rw [hx]

end Cert.KernelIdeal.Sinkhorn

end
-- ==== Proof.RefRead.lean ====
/- The reference over the extended reals, read entry by entry: what it starts from, what one trip does, what it returns. -/
module

public import proofs.«01_k».proof.Proof.Gen.ReferenceIdeal.StepRun
public import Idealize.ShloMosaic.Lib.Pointwise

@[expose] public section

set_option maxRecDepth 16384

noncomputable section

namespace Cert.ReferenceIdeal.Sinkhorn

open Idealize.ShloMosaic Idealize.SL.Sem Cert.ReferenceIdeal Cert.ReferenceIdeal.Step

section guards

variable {F : FTy → Type} [FloatOps F]

theorem row_guard (n : ℕ) (s : State F) (y : S4096x128x1.Idx) :
    b12 n s y = Scalar.select (FloatOps.cmpf .olt (FloatOps.hostAbsf (φ := .f32) (b4 n s y)) (FloatOps.ofBits .f32 0x7F800000#32))
      (b4 n s y) (FloatOps.ofBits .f32 0x00000000#32) := by
  unfold b12 b8 b5 b7 b6 b11 b10 b9
  rfl

theorem col_guard (n : ℕ) (s : State F) (y : S4096x1x128.Idx) :
    b33 n s y = Scalar.select (FloatOps.cmpf .olt (FloatOps.hostAbsf (φ := .f32) (b25 n s y)) (FloatOps.ofBits .f32 0x7F800000#32))
      (b25 n s y) (FloatOps.ofBits .f32 0x00000000#32) := by
  unfold b33 b29 b26 b28 b27 b32 b31 b30
  rfl

end guards

theorem top_word : Ideal.ofBits .f32 0x7F800000#32 = (⊤ : EReal) := by
  simp [Ideal.ofBits, Ideal.ieee]

theorem bot_word : Ideal.ofBits .f32 0xFF800000#32 = (⊥ : EReal) := by
  simp [Ideal.ofBits, Ideal.ieee]

theorem temperature_word : Ideal.ofBits .f32 0x3D23D70A#32 = ((5368709 / 134217728 : ℝ) : EReal) := by
  simp [Ideal.ofBits, Ideal.ieee]
  rw [← EReal.coe_mul, EReal.coe_eq_coe_iff]
  norm_num

/-- The guard lets a real number through. -/
theorem guard_real (m : ℝ) (f : EReal) :
    Scalar.select (FloatOps.cmpf (F := Ideal) (φ := .f32) .olt (FloatOps.hostAbsf (F := Ideal) (φ := .f32) (m : EReal)) (FloatOps.ofBits (F := Ideal) .f32 0x7F800000#32)) (m : EReal) f = m := by
  have h : (FloatOps.hostAbsf (F := Ideal) (φ := .f32) (m : EReal) : EReal) = ((max m (-m) : ℝ) : EReal) := by
    show max (m : EReal) (-(m : EReal)) = _
    rw [← EReal.coe_neg, EReal.coe_strictMono.monotone.map_max]
  have h' : FloatOps.cmpf (F := Ideal) (φ := .f32) .olt (FloatOps.hostAbsf (F := Ideal) (φ := .f32) (m : EReal)) (FloatOps.ofBits (F := Ideal) .f32 0x7F800000#32) = 1#1 := by
    show Ideal.cmp .olt (FloatOps.hostAbsf (F := Ideal) (φ := .f32) (m : EReal)) (Ideal.ofBits .f32 0x7F800000#32) = 1#1
    rw [h, top_word]
    simp [Ideal.cmp]
  rw [h']
  rfl

variable (n : ℕ) (s : State Ideal) (b : Fin 4096)

/-- The largest entry of a row; of a column of what the row step leaves. -/
theorem row_max (i : Fin 128) :
    b4 (F := Ideal) n s (ix3 b i 0) = Finset.fold max (⊥ : EReal) (fun l => s.main_v2_2 (ix3 b i l)) Finset.univ := by
  pointwise [b4, b3, b2, bot_word]

theorem col_max (j : Fin 128) :
    b25 (F := Ideal) n s (ix3 b 0 j) = Finset.fold max (⊥ : EReal) (fun l => b22 (F := Ideal) n s (ix3 b l j)) Finset.univ := by
  pointwise [b25, b24, b23, bot_word]

/-- The row step and the column step, the guarded maxima left standing. -/
theorem row_step (i j : Fin 128) :
    b22 (F := Ideal) n s (ix3 b i j) = s.main_v2_2 (ix3 b i j)
      - (Ideal.log (∑ l : Fin 128, Ideal.exp (s.main_v2_2 (ix3 b i l) - b12 (F := Ideal) n s (ix3 b i 0))) + b12 (F := Ideal) n s (ix3 b i 0)) := by
  pointwise [b22, b21, b20, b19, b18, b17, b16, b15, b14, b13]

theorem col_step (i j : Fin 128) :
    (step (F := Ideal) n s).main_v2_2 (ix3 b i j) = b22 (F := Ideal) n s (ix3 b i j)
      - (Ideal.log (∑ l : Fin 128, Ideal.exp (b22 (F := Ideal) n s (ix3 b l j) - b33 (F := Ideal) n s (ix3 b 0 j))) + b33 (F := Ideal) n s (ix3 b 0 j)) := by
  pointwise [step, b43, b42, b41, b40, b39, b38, b37, b36, b35, b34]

theorem init_apply (x : FVec Ideal S4096x128x128 .f32) (i j : Fin 128) :
    (init (F := Ideal) x).main_v2_2 (ix3 b i j) = x (ix3 b i j) * ((134217728 / 5368709 : ℝ) : EReal) := by
  pointwise [init, A_main_v1, K_main_v0, K_main_cst]
  rw [temperature_word, Ideal.div_coe (by norm_num)]
  congr 2
  norm_num

theorem result_apply (i j : Fin 128) :
    R_main_v3 (F := Ideal) s (ix3 b i j) = Ideal.exp (s.main_v2_2 (ix3 b i j)) := by
  pointwise [R_main_v3]

end Cert.ReferenceIdeal.Sinkhorn

end
-- ==== Proof.PreRead.lean ====
/- The precondition over the extended reals, read entry by entry: it says of every matrix that no sum of its 21 scalings
   lies below the least 32-bit number from 1e-30 up. -/
module

public import proofs.«01_k».proof.Pre_no_sum_below_floor
public import proofs.«01_k».proof.Proof.Scaling
public import Idealize.ShloMosaic.Lib.Pointwise

@[expose] public section

set_option maxRecDepth 16384

noncomputable section

namespace Cert.Pre_no_sum_below_floor

open Idealize.ShloMosaic

theorem facts : Facts where
  bcast_S_S4096x128x128 := by decide
  reducesTo_S4096x128x128_S4096x128_d2 := by decide
  h_S_ := by decide
  bcast_S4096x128_S4096x128x1_0_1 := by decide
  bcast_S4096x128x1_S4096x128x128_0_1_2 := by decide
  bcast_S_S4096x1x128 := by decide
  bcast_S4096x1x128_S4096x128x128_0_1_2 := by decide
  reducesTo_S4096x128x128_S4096x128_d1 := by decide
  bcast_S4096x128_S4096x1x128_0_2 := by decide
  bcast_S_S4096x128x1 := by decide

variable [Facts]
open Facts

section generic

variable {F : FTy → Type} [FloatOps F]

/-- The matrices of exponentials; one scaling's row sums and column sums. -/
def shifted (x : FVec F S4096x128x128 .f32) : FVec F S4096x128x128 .f32 :=
  let v1 : FVec F S4096x128x128 .f32 := Host.divf x (broadcastInDim S4096x128x128 ![] bcast_S_S4096x128x128 (constant S_ .f32 0x3D23D70A#32))
  let v2 : FVec F S4096x128 .f32 := Host.reduce FloatOps.maximumf v1 (constant S_ .f32 0xFF800000#32) reducesTo_S4096x128x128_S4096x128_d2 h_S_
  Host.exp (subf v1 (broadcastInDim S4096x128x128 ![0, 1, 2] bcast_S4096x128x1_S4096x128x128_0_1_2
    (broadcastInDim S4096x128x1 ![0, 1] bcast_S4096x128_S4096x128x1_0_1 v2)))

def rows (k : FVec F S4096x128x128 .f32) (c : FVec F S4096x1x128 .f32) : FVec F S4096x128x1 .f32 :=
  broadcastInDim S4096x128x1 ![0, 1] bcast_S4096x128_S4096x128x1_0_1
    (Host.reduceAdd (mulf k (broadcastInDim S4096x128x128 ![0, 1, 2] bcast_S4096x1x128_S4096x128x128_0_1_2 c))
      (constant S_ .f32 0x00000000#32) reducesTo_S4096x128x128_S4096x128_d2 h_S_)

def cols (k : FVec F S4096x128x128 .f32) (c : FVec F S4096x1x128 .f32) : FVec F S4096x1x128 .f32 :=
  broadcastInDim S4096x1x128 ![0, 2] bcast_S4096x128_S4096x1x128_0_2
    (Host.reduceAdd (Host.divf k (broadcastInDim S4096x128x128 ![0, 1, 2] bcast_S4096x128x1_S4096x128x128_0_1_2 (rows k c)))
      (constant S_ .f32 0x00000000#32) reducesTo_S4096x128x128_S4096x128_d1 h_S_)

def inverse (v : FVec F S4096x1x128 .f32) : FVec F S4096x1x128 .f32 :=
  Host.divf (broadcastInDim S4096x1x128 ![] bcast_S_S4096x1x128 (constant S_ .f32 0x3F800000#32)) v

def rowBits (u : FVec F S4096x128x1 .f32) : IVec S4096x128x1 1 :=
  cmpf .oge u (broadcastInDim S4096x128x1 ![] bcast_S_S4096x128x1 (constant S_ .f32 0x0DA24260#32))

def colBits (v : FVec F S4096x1x128 .f32) : IVec S4096x1x128 1 :=
  cmpf .oge v (broadcastInDim S4096x1x128 ![] bcast_S_S4096x1x128 (constant S_ .f32 0x0DA24260#32))

theorem trip_eq (k : FVec F S4096x128x128 .f32) (c : FVec F S4096x1x128 .f32) (ok : IVec S4096x128x128 1) :
    fn_scaling_trip k c ok = (inverse (cols k c),
      andi (andi ok (broadcastInDim S4096x128x128 ![0, 1, 2] bcast_S4096x128x1_S4096x128x128_0_1_2 (rowBits (rows k c))))
        (broadcastInDim S4096x128x128 ![0, 1, 2] bcast_S4096x1x128_S4096x128x128_0_1_2 (colBits (cols k c)))) := by
  unfold fn_scaling_trip inverse rowBits colBits cols rows
  rfl

/-- The pair the trips carry. -/
def carried (k : FVec F S4096x128x128 .f32) : ℕ → FVec F S4096x1x128 .f32 × IVec S4096x128x128 1
  | 0 => (broadcastInDim S4096x1x128 ![] bcast_S_S4096x1x128 (constant S_ .f32 0x3F800000#32),
      broadcastInDim S4096x128x128 ![] bcast_S_S4096x128x128 (constantI S_ 1 1#1))
  | t + 1 => fn_scaling_trip k (carried k t).1 (carried k t).2

theorem fn_eq (x : FVec F S4096x128x128 .f32) : fn x = (carried (shifted x) 21).2 := by
  unfold fn fn_part1 fn_part2 shifted
  rfl

theorem rowBits_apply (u : FVec F S4096x128x1 .f32) (y : S4096x128x1.Idx) :
    rowBits u y = FloatOps.cmpf .oge (u y) (FloatOps.ofBits .f32 0x0DA24260#32) := rfl

theorem colBits_apply (v : FVec F S4096x1x128 .f32) (y : S4096x1x128.Idx) :
    colBits v y = FloatOps.cmpf .oge (v y) (FloatOps.ofBits .f32 0x0DA24260#32) := rfl

end generic

theorem across (v : IVec S4096x128x1 1) (b : Fin 4096) (i j : Fin 128) :
    broadcastInDim S4096x128x128 ![0, 1, 2] bcast_S4096x128x1_S4096x128x128_0_1_2 v (ix3 b i j) = v (ix3 b i 0) := by
  pointwise

theorem down (v : IVec S4096x1x128 1) (b : Fin 4096) (i j : Fin 128) :
    broadcastInDim S4096x128x128 ![0, 1, 2] bcast_S4096x1x128_S4096x128x128_0_1_2 v (ix3 b i j) = v (ix3 b 0 j) := by
  pointwise

/-! ## Over the extended reals -/

theorem bot_word : Ideal.ofBits .f32 0xFF800000#32 = (⊥ : EReal) := by
  simp [Ideal.ofBits, Ideal.ieee]

theorem temperature_word : Ideal.ofBits .f32 0x3D23D70A#32 = ((5368709 / 134217728 : ℝ) : EReal) := by
  simp [Ideal.ofBits, Ideal.ieee]
  rw [← EReal.coe_mul, EReal.coe_eq_coe_iff]
  norm_num

/-- The least 32-bit number from 1e-30 up, as a real. -/
def least : ℝ := 10633824 * (2 ^ 123)⁻¹

theorem least_word : Ideal.ofBits .f32 0x0DA24260#32 = (least : EReal) := by
  simp [Ideal.ofBits, Ideal.ieee, least]

variable (x : FVec Ideal S4096x128x128 .f32) (k : FVec Ideal S4096x128x128 .f32) (c : FVec Ideal S4096x1x128 .f32) (b : Fin 4096)

theorem shifted_apply (i j : Fin 128) :
    shifted (F := Ideal) x (ix3 b i j) = Scaling.expo (fun i j => x (ix3 b i j) * ((134217728 / 5368709 : ℝ) : EReal)) i j := by
  have h (y : EReal) : Ideal.div y ((5368709 / 134217728 : ℝ) : EReal) = y * ((134217728 / 5368709 : ℝ) : EReal) := by
    rw [Ideal.div_coe (by norm_num)]
    norm_num
  unfold Scaling.expo Scaling.top
  simp only [← h]
  pointwise [shifted, bot_word, temperature_word]

theorem rows_apply (i : Fin 128) :
    rows (F := Ideal) k c (ix3 b i 0) = Scaling.rowSum (fun i j => k (ix3 b i j)) (fun j => c (ix3 b 0 j)) i := by
  unfold Scaling.rowSum
  pointwise [rows]

theorem cols_apply (j : Fin 128) :
    cols (F := Ideal) k c (ix3 b 0 j) = Scaling.colSum (fun i j => k (ix3 b i j)) (fun j => c (ix3 b 0 j)) j := by
  unfold Scaling.colSum
  pointwise [cols, rows_apply]

theorem inverse_apply (v : FVec Ideal S4096x1x128 .f32) (j : Fin 128) :
    inverse (F := Ideal) v (ix3 b 0 j) = Ideal.div 1 (v (ix3 b 0 j)) := by
  pointwise [inverse]

theorem carried_factors (t : ℕ) :
    ∀ j, (carried (F := Ideal) k t).1 (ix3 b 0 j) = Scaling.factors (fun i j => k (ix3 b i j)) t j := by
  induction t with
  | zero =>
    intro j
    show _ = (1 : EReal)
    unfold carried
    pointwise
  | succ t ih =>
    intro j
    show (fn_scaling_trip k (carried k t).1 (carried k t).2).1 (ix3 b 0 j) = Ideal.div 1 (Scaling.colSum _ _ j)
    rw [trip_eq]
    show inverse (cols k (carried k t).1) (ix3 b 0 j) = _
    rw [inverse_apply, cols_apply, show (fun j => (carried (F := Ideal) k t).1 (ix3 b 0 j)) = _ from funext ih]

theorem ge_bit (u : EReal)
    (h : FloatOps.cmpf (F := Ideal) (φ := .f32) .oge u (FloatOps.ofBits (F := Ideal) .f32 0x0DA24260#32) = 1#1) : (least : EReal) ≤ u := by
  have h' : Ideal.cmp .oge u (Ideal.ofBits .f32 0x0DA24260#32) = 1#1 := h
  rw [least_word] at h'
  by_contra hn
  simp [Ideal.cmp, hn] at h'

theorem and_bit (p q : BitVec 1) (h : p &&& q = 1#1) : p = 1#1 ∧ q = 1#1 := by
  revert p q
  decide

theorem carried_bits (t : ℕ) (i j : Fin 128) (h : (carried (F := Ideal) k (t + 1)).2 (ix3 b i j) = 1#1) :
    (carried (F := Ideal) k t).2 (ix3 b i j) = 1#1
      ∧ (least : EReal) ≤ Scaling.rowSum (fun i j => k (ix3 b i j)) (Scaling.factors (fun i j => k (ix3 b i j)) t) i
      ∧ (least : EReal) ≤ Scaling.colSum (fun i j => k (ix3 b i j)) (Scaling.factors (fun i j => k (ix3 b i j)) t) j := by
  have e : carried (F := Ideal) k (t + 1) = fn_scaling_trip k (carried k t).1 (carried k t).2 := rfl
  rw [e, trip_eq] at h
  obtain ⟨h, h2⟩ := and_bit _ _ h
  obtain ⟨h0, h1⟩ := and_bit _ _ h
  rw [across, rowBits_apply] at h1
  rw [down, colBits_apply] at h2
  have h1 := ge_bit _ h1
  have h2 := ge_bit _ h2
  rw [rows_apply, show (fun j => (carried (F := Ideal) k t).1 (ix3 b 0 j)) = _ from funext (carried_factors k b t)] at h1
  rw [cols_apply, show (fun j => (carried (F := Ideal) k t).1 (ix3 b 0 j)) = _ from funext (carried_factors k b t)] at h2
  exact ⟨h0, h1, h2⟩

theorem bits_above (T : ℕ) (h : ∀ i j, (carried (F := Ideal) k T).2 (ix3 b i j) = 1#1) :
    Scaling.Above (least : EReal) (fun i j => k (ix3 b i j)) T := by
  induction T with
  | zero => exact fun t ht => absurd ht (Nat.not_lt_zero t)
  | succ T ih =>
    intro t ht
    rcases Nat.lt_succ_iff_lt_or_eq.mp ht with ht | rfl
    · exact ih (fun i j => (carried_bits k b T i j (h i j)).1) t ht
    · exact ⟨fun i => (carried_bits k b _ i 0 (h i 0)).2.1, fun j => (carried_bits k b _ 0 j (h 0 j)).2.2⟩

/-- What the precondition says of matrix `b`. -/
theorem above (h : fn (F := Ideal) x = fun _ => 1#1) :
    Scaling.Above (least : EReal) (Scaling.expo fun i j => x (ix3 b i j) * ((134217728 / 5368709 : ℝ) : EReal)) 21 := by
  have := bits_above (shifted x) b 21 fun i j => by rw [← fn_eq, h]
  rwa [show (fun i j => shifted (F := Ideal) x (ix3 b i j)) = _ from funext fun i => funext fun j => shifted_apply x b i j] at this

theorem floor_le_least : (1 / 1000000000000000000000000000000 : ℝ) ≤ least := by
  unfold least
  norm_num

end Cert.Pre_no_sum_below_floor

end
-- ==== Proof.Equation.lean ====
/- The equation of the two programs: the array the kernel leaves is the array the reference returns, wherever the
   precondition holds. -/
module

public import proofs.«01_k».proof.Proof.Array
public import proofs.«01_k».proof.Proof.RefRead
public import proofs.«01_k».proof.Proof.PreRead

@[expose] public section

set_option maxRecDepth 16384

noncomputable section

namespace Cert.Equation

open Idealize.ShloMosaic Idealize.SL.Sem

/-- The reference's states from an argument array: 21 trips. -/
def states (x : FVec Ideal Cert.ReferenceIdeal.S4096x128x128 .f32) : ℕ → Cert.ReferenceIdeal.Step.State Ideal
  | 0 => Cert.ReferenceIdeal.Step.init x
  | n + 1 => Cert.ReferenceIdeal.Step.step n (states x n)

variable (x : FVec Ideal Cert.ReferenceIdeal.S4096x128x128 .f32) (b : Fin 4096)

/-- Matrix `b` before trip `n`, and between its row step and its column step. -/
def la (n : ℕ) (i j : Fin 128) : EReal := (states x n).main_v2_2 (ix3 b i j)
def lr (n : ℕ) (i j : Fin 128) : EReal := Cert.ReferenceIdeal.Step.b22 (F := Ideal) n (states x n) (ix3 b i j)

theorem la_zero : la x b 0 = fun i j => x (ix3 b i j) * ((134217728 / 5368709 : ℝ) : EReal) :=
  funext fun i => funext fun j => Cert.ReferenceIdeal.Sinkhorn.init_apply b x i j

theorem trips (n : ℕ) : Scaling.Trip (la x b n) (lr x b n) (la x b (n + 1)) where
  row i := by
    refine ⟨Cert.ReferenceIdeal.Step.b12 (F := Ideal) n (states x n) (ix3 b i 0), fun r hr => ?_, fun j =>
      Cert.ReferenceIdeal.Sinkhorn.row_step n (states x n) b i j⟩
    rw [Cert.ReferenceIdeal.Sinkhorn.row_guard, Cert.ReferenceIdeal.Sinkhorn.row_max]
    have hr' : Finset.fold max (⊥ : EReal) (fun l => (states x n).main_v2_2 (ix3 b i l)) Finset.univ = (r : EReal) := hr
    rw [hr']
    exact Cert.ReferenceIdeal.Sinkhorn.guard_real r _
  col j := by
    refine ⟨Cert.ReferenceIdeal.Step.b33 (F := Ideal) n (states x n) (ix3 b 0 j), fun r hr => ?_, fun i =>
      Cert.ReferenceIdeal.Sinkhorn.col_step n (states x n) b i j⟩
    rw [Cert.ReferenceIdeal.Sinkhorn.col_guard, Cert.ReferenceIdeal.Sinkhorn.col_max]
    have hr' : Finset.fold max (⊥ : EReal) (fun l => Cert.ReferenceIdeal.Step.b22 (F := Ideal) n (states x n) (ix3 b l j)) Finset.univ = (r : EReal) := hr
    rw [hr']
    exact Cert.ReferenceIdeal.Sinkhorn.guard_real r _

/-- One matrix: the kernel's scaling is the reference's result. -/
theorem matrix_eq [Cert.Pre_no_sum_below_floor.Facts] (h : Cert.Pre_no_sum_below_floor.fn (F := Ideal) x = fun _ => 1#1) (i j : Fin 128) :
    Scaling.kResult Cert.KernelIdeal.Sinkhorn.least (Scaling.expo fun i j => x (ix3 b i j) * Cert.KernelIdeal.Sinkhorn.scale)
        (Scaling.kFactors Cert.KernelIdeal.Sinkhorn.least (Scaling.expo fun i j => x (ix3 b i j) * Cert.KernelIdeal.Sinkhorn.scale) 20) i j
      = Cert.ReferenceIdeal.Step.R_main_v3 (F := Ideal) (states x 21) (ix3 b i j) := by
  have ha := Cert.Pre_no_sum_below_floor.above x b h
  rw [← la_zero x b] at ha
  have e := Scaling.kernel_eq_reference _ _ (by norm_num) Cert.Pre_no_sum_below_floor.floor_le_least 20 (la x b) (lr x b) (trips x b) ha i j
  rw [la_zero x b] at e
  exact e.trans (Cert.ReferenceIdeal.Sinkhorn.result_apply (states x 21) b i j).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.StepRun
public import proofs.«01_k».proof.Proof.Gen.KernelIdeal.Value
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

theorem quiescent_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem preserves : Cert.preserves_Kernel_KernelIdeal :=
  ⟨IdealRules.named_const.statement Cert.KernelIdeal.κ "inv_temperature" .f32 0x41C80000#32 ((134217728 / 5368709 : ℝ) : EReal) rfl,
    IdealRules.named_const.statement Cert.KernelIdeal.κ "floor" .bf16 0x0DA2#16 ((1 / 1000000000000000000000000000000 : ℝ) : EReal) rfl,
    IdealRules.named_const.statement Cert.KernelIdeal.κ "floor" .f32 0x0DA24260#32 ((1 / 1000000000000000000000000000000 : ℝ) : EReal) rfl⟩

section value

variable (m : (ℓ : Loc Cert.KernelIdeal.nD Cert.KernelIdeal.τ Cert.KernelIdeal.sig) → Buf (Elt Ideal) ℓ)

/-- The array both programs return. -/
def result (c : Dev Cert.KernelIdeal.nD) : FVec Ideal Cert.ReferenceIdeal.S4096x128x128 .f32 :=
  Cert.ReferenceIdeal.Step.R_main_v3 (F := Ideal) (Cert.Equation.states (Cert.KernelIdeal.Sinkhorn.argument m c) 21)

theorem kernel_array [Cert.Pre_no_sum_below_floor.Facts] (c : Dev Cert.KernelIdeal.nD)
    (h : Cert.Pre_no_sum_below_floor.fn (F := Ideal) (Cert.KernelIdeal.Sinkhorn.argument m c) = fun _ => 1#1) :
    (Cert.KernelIdeal.Gen.dats m 0 c).arrAt 1 Cert.KernelIdeal.cfg0.N = result m c := by
  funext y
  have hy : y = (ix3 (y 0) (y 1) (y 2) : Cert.KernelIdeal.S4096x128x128.Idx) := by
    funext a
    match a with
    | ⟨0, _⟩ => rfl
    | ⟨1, _⟩ => rfl
    | ⟨2, _⟩ => rfl
  rw [hy]
  exact (Cert.KernelIdeal.Sinkhorn.array_apply m c _ _ _).trans (Cert.Equation.matrix_eq (Cert.KernelIdeal.Sinkhorn.argument m c) _ h _ _)

end value

theorem algebraic : Cert.algebraic_KernelIdeal_ReferenceIdeal_pre_no_sum_below_floor (hKernelIdeal := Cert.KernelIdeal.Gen.facts)
    (hReferenceIdeal := Cert.ReferenceIdeal.Gen.facts) (hPre_no_sum_below_floor := Cert.Pre_no_sum_below_floor.facts) := by
  intro m g m' g' hPre hArg
  refine ⟨result m, ?_, ?_⟩
  · exact (θ_run Cert.KernelIdeal.defs _ _).mono (fun r h c => ⟨(h c).1.trans (@kernel_array m Cert.Pre_no_sum_below_floor.facts c (hPre c)), (h c).2⟩)
      (Cert.KernelIdeal.Value.run_blocks m g)
  · refine Cert.ReferenceIdeal.StepRun.run_iter m' g' (fun c => Cert.Equation.states (Cert.KernelIdeal.Sinkhorn.argument m c)) (fun c => ?_)
      (fun c n => rfl)
    exact congrArg (Cert.ReferenceIdeal.Step.init (F := Ideal)) (hArg c).symm

theorem claim : Cert.Claim :=
  ⟨Cert.Kernel.Gen.facts, Cert.KernelIdeal.Gen.facts, Cert.ReferenceIdeal.Gen.facts, Cert.Pre_no_sum_below_floor.facts,
    fun m g _ => Cert.Kernel.Gen.frame m g,
    fun m g _ => Cert.KernelIdeal.Gen.frame m g,
    fun m g _ => Cert.KernelIdeal.Gen.frame m g,
    quiescent_reference,
    fun m g _ => quiescent_reference m g trivial,
    preserves,
    algebraic⟩

end Cert.Proof

end
